-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4x512x4096 : Shape := ⟨3, ![4, 512, 4096]⟩
abbrev S2x512x2048 : Shape := ⟨3, ![2, 512, 2048]⟩
abbrev S2 : Shape := ⟨1, ![2]⟩
abbrev S3 : Shape := ⟨1, ![3]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S512x2048 : Shape := ⟨2, ![512, 2048]⟩
abbrev S1x512x2048 : Shape := ⟨3, ![1, 512, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S4096x2048, .f32⟩
  | .local _ .vmem, ⟨0, _⟩ => ⟨S4096x2048, .bf16⟩
  | .local _ .vmem, ⟨1, _⟩ => ⟨S4x512x4096, .bf16⟩
  | .local _ .vmem, ⟨2, _⟩ => ⟨S4x512x4096, .bf16⟩
  | .local _ .vmem, ⟨3, _⟩ => ⟨S2x512x2048, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 2 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25 : BitVec 32 := 1#32
  let v36 : BitVec 32 := Scalar.muli v13 c1_i32_25
  let v37 : BitVec 32 := Scalar.addi c0_i32_26 v36
  v37.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v38 : BitVec 32 := Scalar.muli v24 c1_i32_28
  let v39 : BitVec 32 := Scalar.addi c0_i32_29 v38
  v39.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_46 : BitVec 32 := 1#32
  let v50 : BitVec 32 := Scalar.muli v24 c1_i32_46
  let v51 : BitVec 32 := Scalar.addi c0_i32_47 v50
  v51.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_56 : BitVec 32 := 1#32
  let v60 : BitVec 32 := Scalar.muli v13 c1_i32_56
  let v61 : BitVec 32 := Scalar.addi c0_i32_57 v60
  v61.toNat
def k0_off1 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : BitVec 32 := Scalar.subi v2 c0_i32_62
  let c4_i32_63 : BitVec 32 := 4#32
  let c0_i32_64 : BitVec 32 := 0#32
  let v71 : BitVec 1 := Scalar.cmpi .eq c4_i32_63 c0_i32_64
  let c1_i32_65 : BitVec 32 := 1#32
  let v72 : BitVec 32 := Scalar.select v71 c1_i32_65 c4_i32_63
  let v73 : BitVec 32 := Scalar.remsi v70 v72
  let c0_i32_67 : BitVec 32 := 0#32
  let v75 : BitVec 1 := Scalar.cmpi .slt v73 c0_i32_67
  let c0_i32_68 : BitVec 32 := 0#32
  let v76 : BitVec 1 := Scalar.cmpi .slt v72 c0_i32_68
  let v77 : BitVec 1 := Scalar.xori v75 v76
  let c0_i32_66 : BitVec 32 := 0#32
  let v74 : BitVec 1 := Scalar.cmpi .ne v73 c0_i32_66
  let v78 : BitVec 1 := Scalar.andi v77 v74
  let v79 : BitVec 32 := Scalar.addi v73 v72
  let v80 : BitVec 32 := Scalar.select v78 v79 v73
  let c1024_i32 : BitVec 32 := 1024#32
  let v81 : BitVec 32 := Scalar.muli v80 c1024_i32
  let c0_i32_79 : BitVec 32 := 0#32
  ![v81.toNat, 0]
def k0_off2 (d0 : Dev nD) (c0_i32_82 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v97 : BitVec 32 := Scalar.addi v2 c0_i32_82
  let c4_i32_83 : BitVec 32 := 4#32
  let c0_i32_84 : BitVec 32 := 0#32
  let v98 : BitVec 1 := Scalar.cmpi .eq c4_i32_83 c0_i32_84
  let c1_i32_85 : BitVec 32 := 1#32
  let v99 : BitVec 32 := Scalar.select v98 c1_i32_85 c4_i32_83
  let v100 : BitVec 32 := Scalar.remsi v97 v99
  let c0_i32_87 : BitVec 32 := 0#32
  let v102 : BitVec 1 := Scalar.cmpi .slt v100 c0_i32_87
  let c0_i32_88 : BitVec 32 := 0#32
  let v103 : BitVec 1 := Scalar.cmpi .slt v99 c0_i32_88
  let v104 : BitVec 1 := Scalar.xori v102 v103
  let c0_i32_86 : BitVec 32 := 0#32
  let v101 : BitVec 1 := Scalar.cmpi .ne v100 c0_i32_86
  let v105 : BitVec 1 := Scalar.andi v104 v101
  let v106 : BitVec 32 := Scalar.addi v100 v99
  let v107 : BitVec 32 := Scalar.select v105 v106 v100
  let c1024_i32_89 : BitVec 32 := 1024#32
  let v108 : BitVec 32 := Scalar.muli v107 c1024_i32_89
  let c512_i32_90 : BitVec 32 := 512#32
  let v109 : BitVec 32 := Scalar.addi v108 c512_i32_90
  let c0_i32_102 : BitVec 32 := 0#32
  ![v109.toNat, 0]
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_129 : BitVec 32 := 1#32
  let v141 : BitVec 32 := Scalar.muli v24 c1_i32_129
  let v142 : BitVec 32 := Scalar.addi c0_i32_130 v141
  v142.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_139 : BitVec 32 := 1#32
  let v151 : BitVec 32 := Scalar.muli v13 c1_i32_139
  let v152 : BitVec 32 := Scalar.addi c0_i32_140 v151
  v152.toNat
def k0_dev7 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_225 : BitVec 32 := 1#32
  let v242 : BitVec 32 := Scalar.muli v24 c1_i32_225
  let v243 : BitVec 32 := Scalar.addi c0_i32_226 v242
  v243.toNat
def k0_dev8 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_235 : BitVec 32 := 1#32
  let v252 : BitVec 32 := Scalar.muli v13 c1_i32_235
  let v253 : BitVec 32 := Scalar.addi c0_i32_236 v252
  v253.toNat
def k0_dev9 (d0 : Dev nD) : Nat :=
  let c0_i32_439_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_438_r0 : BitVec 32 := 1#32
  let v455_r0 : BitVec 32 := Scalar.muli v13 c1_i32_438_r0
  let v456_r0 : BitVec 32 := Scalar.addi c0_i32_439_r0 v455_r0
  v456_r0.toNat
def k0_dev10 (d0 : Dev nD) : Nat :=
  let c0_i32_442_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_441_r0 : BitVec 32 := 1#32
  let v457_r0 : BitVec 32 := Scalar.muli v24 c1_i32_441_r0
  let v458_r0 : BitVec 32 := Scalar.addi c0_i32_442_r0 v457_r0
  v458_r0.toNat
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdealRun.Protocol.lean ====
/-
# The protocol of the two-way ring: buffers, cells, contents, schedule

Every device holds 1024 rows of `x`. Their first half travels to the right round the ring of four devices, their second
half to the left, three hops each, every hop into a slot of its own. Each device multiplies what it holds by its own
columns of `w_mat` and writes eight blocks of 512 rows of its result.

Per device there are eighteen cells beside the staging cell of `w_mat`:

* the launch's barrier (two duties, one unit each): the right neighbour hands over its slots 1..3 of the buffer the
  first halves travel through, the left neighbour its slots 1..3 of the other buffer;
* two load cells: a slot 0 filled with the device's own rows;
* for each direction and hop a send cell (the borrowed half share of the slot sent comes back) and a receive cell (the
  slot filled with the rows of the device that many places upstream);
* two copy cells of four rounds each: the staging slot back and one block of the result written;
* the closing barrier (two duties, one unit each, nothing handed over).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.FamCut
public import Idealize.ShloMosaic.Lib.Exec.Context
public import Idealize.ShloMosaic.Lib.VecWindow
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' resources: one copy for the pipeline's staging cells, one for the ring's. -/
abbrev UB : Type := URounds (GSem nD τ sig) Bool
/-- Both copies. -/
abbrev UU : Type := UR sig nD τ × UB

local notation "𝕄" => MT nD τ sig Unit (Elt F) ℕ UU ℕ

/-- The pipeline's copy. -/
abbrev EP : Emb (UR sig nD τ) (MT nD τ sig Unit (Elt F) ℕ UU ℕ) := embL
/-- The ring's copy. -/
abbrev ER : Emb UB (MT nD τ sig Unit (Elt F) ℕ UU ℕ) := embR

/-- No variants. -/
abbrev 𝒱₀ : Variants := Variants.none

variable (m : (ℓ : Loc nD τ sig) → Buf (Elt F) ℓ) (ρ : Dev nD → PrngReg)

/-- The memory at launch. -/
def s₀ : MemSt nD τ sig (Elt F) := ⟨m, fun _ => 0, ρ⟩

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

/-- Right, then left, is home. -/
theorem prv_nxt (c : Dev nD) : prv (nxt c) = c := by revert c; decide
/-- So is left, then right. -/
theorem nxt_prv (c : Dev nD) : nxt (prv c) = c := by revert c; decide

/-- The ring as a permutation of the devices. -/
def ring : Dev nD ≃ Dev nD := ⟨nxt, prv, prv_nxt, nxt_prv⟩

/-- The device each signal and transfer names: left, right, right, left, right, left, right, left, left, right. -/
theorem dev1_eq (c : Dev nD) : (⟨k0_dev1 c, Gen.k0_dev1_lt c⟩ : Dev nD) = prv c := by revert c; decide +kernel
/-- The right neighbour, as name 2 has it. -/
theorem dev2_eq (c : Dev nD) : (⟨k0_dev2 c, Gen.k0_dev2_lt c⟩ : Dev nD) = nxt c := by revert c; decide +kernel
/-- The right neighbour, as name 3 has it. -/
theorem dev3_eq (c : Dev nD) : (⟨k0_dev3 c, Gen.k0_dev3_lt c⟩ : Dev nD) = nxt c := by revert c; decide +kernel
/-- The left neighbour, as name 4 has it. -/
theorem dev4_eq (c : Dev nD) : (⟨k0_dev4 c, Gen.k0_dev4_lt c⟩ : Dev nD) = prv c := by revert c; decide +kernel
/-- The right neighbour, as name 5 has it. -/
theorem dev5_eq (c : Dev nD) : (⟨k0_dev5 c, Gen.k0_dev5_lt c⟩ : Dev nD) = nxt c := by revert c; decide +kernel
/-- The left neighbour, as name 6 has it. -/
theorem dev6_eq (c : Dev nD) : (⟨k0_dev6 c, Gen.k0_dev6_lt c⟩ : Dev nD) = prv c := by revert c; decide +kernel
/-- The right neighbour, as name 7 has it. -/
theorem dev7_eq (c : Dev nD) : (⟨k0_dev7 c, Gen.k0_dev7_lt c⟩ : Dev nD) = nxt c := by revert c; decide +kernel
/-- The left neighbour, as name 8 has it. -/
theorem dev8_eq (c : Dev nD) : (⟨k0_dev8 c, Gen.k0_dev8_lt c⟩ : Dev nD) = prv c := by revert c; decide +kernel
/-- The left neighbour, as name 9 has it. -/
theorem dev9_eq (c : Dev nD) : (⟨k0_dev9 c, Gen.k0_dev9_lt c⟩ : Dev nD) = prv c := by revert c; decide +kernel
/-- The right neighbour, as name 10 has it. -/
theorem dev10_eq (c : Dev nD) : (⟨k0_dev10 c, Gen.k0_dev10_lt c⟩ : Dev nD) = nxt c := by revert c; decide +kernel

/-! ## The buffers -/

abbrev xM : Memref sig .tc .hbm S1024x4096 .bf16 := Memref.whole main_arg0
abbrev wM : Memref sig .tc .vmem S4096x2048 .bf16 := Memref.whole cc0_stg0_0
abbrev oM : Memref sig .tc .hbm S4096x2048 .f32 := Memref.whole main_v1
abbrev tM : Memref sig .tc .vmem S4x512x4096 .bf16 := Memref.whole cc0_scratch0
abbrev bM : Memref sig .tc .vmem S4x512x4096 .bf16 := Memref.whole cc0_scratch1
abbrev sM : Memref sig .tc .vmem S2x512x2048 .f32 := Memref.whole cc0_scratch2

/-- The first and the second half of a device's rows of `x`. -/
abbrev xTop : Memref sig .tc .hbm S512x4096 .bf16 := xM.slice (Rect.unit (s := S1024x4096) ![0, 0] S512x4096.size Gen.inb_S1024x4096_S512x4096_0_0) (fun _ => rfl)
abbrev xBot : Memref sig .tc .hbm S512x4096 .bf16 := xM.slice (Rect.unit (s := S1024x4096) ![512, 0] S512x4096.size Gen.inb_S1024x4096_S512x4096_512_0) (fun _ => rfl)

/-- A slot of a buffer of four. -/
abbrev slot4 (M : Memref sig .tc .vmem S4x512x4096 .bf16) (o : Fin 3 → ℕ) (inb : ∀ a, o a + S1x512x4096.size a ≤ S4x512x4096.size a) :
    Memref sig .tc .vmem S512x4096 .bf16 :=
  (M.slice (Rect.unit (s := S4x512x4096) o S1x512x4096.size inb) (fun _ => rfl)).squeeze S512x4096 Gen.squeezes_S1x512x4096_S512x4096

/-- A slot of the buffer of two the result's blocks are staged in. -/
abbrev slot2 (o : Fin 3 → ℕ) (inb : ∀ a, o a + S1x512x2048.size a ≤ S2x512x2048.size a) : Memref sig .tc .vmem S512x2048 .f32 :=
  (sM.slice (Rect.unit (s := S2x512x2048) o S1x512x2048.size inb) (fun _ => rfl)).squeeze S512x2048 Gen.squeezes_S1x512x2048_S512x2048

abbrev top0 := slot4 tM ![0, 0, 0] Gen.inb_S4x512x4096_S1x512x4096_0_0_0
abbrev top1 := slot4 tM ![1, 0, 0] Gen.inb_S4x512x4096_S1x512x4096_1_0_0
abbrev top2 := slot4 tM ![2, 0, 0] Gen.inb_S4x512x4096_S1x512x4096_2_0_0
abbrev top3 := slot4 tM ![3, 0, 0] Gen.inb_S4x512x4096_S1x512x4096_3_0_0
abbrev bot0 := slot4 bM ![0, 0, 0] Gen.inb_S4x512x4096_S1x512x4096_0_0_0
abbrev bot1 := slot4 bM ![1, 0, 0] Gen.inb_S4x512x4096_S1x512x4096_1_0_0
abbrev bot2 := slot4 bM ![2, 0, 0] Gen.inb_S4x512x4096_S1x512x4096_2_0_0
abbrev bot3 := slot4 bM ![3, 0, 0] Gen.inb_S4x512x4096_S1x512x4096_3_0_0
abbrev stg0 := slot2 ![0, 0, 0] Gen.inb_S2x512x2048_S1x512x2048_0_0_0
abbrev stg1 := slot2 ![1, 0, 0] Gen.inb_S2x512x2048_S1x512x2048_1_0_0

/-- The block of the result that round `r` of the first (second) halves writes. -/
abbrev outT (c : Dev nD) (r : Fin 4) : Memref sig .tc .hbm S512x2048 .f32 :=
  oM.slice (Rect.unit (s := S4096x2048) (k0_off1 c (BitVec.ofNat 32 r.val)) S512x2048.size (Gen.k0_off1_inb c r)) (fun _ => rfl)
abbrev outB (c : Dev nD) (r : Fin 4) : Memref sig .tc .hbm S512x2048 .f32 :=
  oM.slice (Rect.unit (s := S4096x2048) (k0_off2 c (BitVec.ofNat 32 r.val)) S512x2048.size (Gen.k0_off2_inb c r)) (fun _ => rfl)

/-! ## Holding a memref by what it reads -/

/-- Device `c` holds the elements of `M`, at share `q`, and they read `X`. -/
def hold (c : Dev nD) {sp : Space} {s : Shape} {e : EltTy} (M : Memref sig .tc sp s e) (q : PosShare TreeShare) (X : s.Idx → Elt F e) : sProp 𝕄 :=
  M.view.loc (c : Thread nD τ) ↦[M.view.set]{q} M.view.rep X

/-- Device `c` holds the elements of `M` outright, whatever they are. -/
def held (c : Dev nD) {sp : Space} {s : Shape} {e : EltTy} (M : Memref sig .tc sp s e) : sProp 𝕄 :=
  iprop(∃ f : Buf (Elt F) (M.view.loc (c : Thread nD τ)), M.view.loc (c : Thread nD τ) ↦[M.view.set]{fullShare} f)

instance hold_storable (c : Dev nD) {sp : Space} {s : Shape} {e : EltTy} (M : Memref sig .tc sp s e) (q : PosShare TreeShare) (X : s.Idx → Elt F e) :
    BI.Storable (upEmb : UEmb _ 𝕄) (hold c M q X) := by unfold hold; infer_instance
instance held_storable (c : Dev nD) {sp : Space} {s : Shape} {e : EltTy} (M : Memref sig .tc sp s e) :
    BI.Storable (upEmb : UEmb _ 𝕄) (held (F := F) c M) := by unfold held; infer_instance

/-- Known contents are some contents. -/
theorem hold_held (c : Dev nD) {sp : Space} {s : Shape} {e : EltTy} (M : Memref sig .tc sp s e) (X : s.Idx → Elt F e) :
    hold c M fullShare X ⊢ held c M := by
  unfold hold held; iintro H; iexists _; iexact H

/-- Elements at `f` are held at what `f` reads. -/
theorem hold_of (c : Dev nD) {sp : Space} {s : Shape} {e : EltTy} (M : Memref sig .tc sp s e) (q : PosShare TreeShare)
    (f : Buf (Elt F) (M.view.loc (c : Thread nD τ))) (X : s.Idx → Elt F e) (h : M.view.read (Elt F) f = X) :
    ((M.view.loc (c : Thread nD τ) ↦[M.view.set]{q} f) : sProp 𝕄) ⊢ hold c M q X := by
  subst h; unfold hold
  exact pointsTo_rep_entails (c : Thread nD τ) M f q

/-- A full share is two halves. -/
theorem hold_halves (c : Dev nD) {sp : Space} {s : Shape} {e : EltTy} (M : Memref sig .tc sp s e) (X : s.Idx → Elt F e) :
    (hold c M fullShare X : sProp 𝕄) ⊣⊢ iprop(hold c M fullShare.left X ∗ hold c M fullShare.right X) := by
  unfold hold
  exact pointsTo_share (PosShare.mem_left_op_right fullShare)

/-! ## Contents -/

/-- The two halves of device `c`'s rows of `x` at launch. -/
def xT (c : Dev nD) : S512x4096.Idx → Elt F .bf16 := xTop.view.read (Elt F) (m ((c : Thread nD τ).loc main_arg0))
def xB (c : Dev nD) : S512x4096.Idx → Elt F .bf16 := xBot.view.read (Elt F) (m ((c : Thread nD τ).loc main_arg0))
/-- Device `c`'s columns of `w_mat`, as staged. -/
def wS (c : Dev nD) : (cc0_stg0_0 : Ref sig .tc).ty.Contents (Elt F) :=
  (win0_0.blk (0 : Fin 1)).view.read (Elt F) (m ((c : Thread nD τ).loc main_arg1))

/-- 512 rows as a vector with a leading axis of one. -/
def addUnit (X : S512x4096.Idx → Elt F .bf16) : S1x512x4096.Idx → Elt F .bf16 :=
  shapeCast S1x512x4096 X Gen.squeezes_S1x512x4096_S512x4096.numel_eq.symm

/-- What the kernel computes of 512 rows and the staged columns, as it reads the staging slot. -/
def blkOf (X : S512x4096.Idx → Elt F .bf16) (w : S4096x2048.Idx → Elt F .bf16) : S512x2048.Idx → Elt F .f32 :=
  shapeCast S512x2048 (k0_pay5 (addUnit X) w) Gen.squeezes_S1x512x2048_S512x2048.numel_eq

/-- The block round `r` writes of the first (second) halves: the rows of the device `r` places upstream. -/
def oT (c : Dev nD) (r : ℕ) : S512x2048.Idx → Elt F .f32 := blkOf (xT m (prv^[r] c)) (wS m c)
def oB (c : Dev nD) (r : ℕ) : S512x2048.Idx → Elt F .f32 := blkOf (xB m (nxt^[r] c)) (wS m c)

/-! ## The cells -/

/-- The credit of a slot of rows, and of a block of the result. -/
abbrev N : ℕ := top0.view.dmaCredit
abbrev NO : ℕ := (outT 0 0).view.dmaCredit
/-- A copy of rows pays something. -/
theorem N_pos : 0 < N := View.dmaCredit_pos _ (by decide)
/-- So does a copy of a block. -/
theorem NO_pos : 0 < NO := View.dmaCredit_pos _ (by decide)

/-- The launch's barrier; the closing barrier. -/
abbrev bar : Sem sig := 0
abbrev bar2 : Sem sig := 1

/-- A device's cells, numbered: the two barriers, then the transfers' in the order of their arrays. -/
def csem (k : Fin 18) : SemLoc sig :=
  if k.val = 0 then .reg bar else if k.val = 1 then .reg bar2 else .dma ⟨k.val - 1, by have := k.isLt; show k.val - 1 < 17; omega⟩
/-- The cells but the launch's barrier. -/
def osem (k : Fin 17) : SemLoc sig := csem k.succ
/-- Cell `k` of device `c`. -/
abbrev kcell (p : Dev nD × Fin 18) : GSem nD τ sig := ((p.1 : Thread nD τ), csem p.2)

/-- The numbering repeats no cell. -/
theorem csem_inj : Function.Injective csem := by decide
/-- Nor over the devices. -/
theorem kcell_inj : Function.Injective kcell := fun p q h => by
  have h1 : p.1 = q.1 := congrArg (fun g : GSem nD τ sig => g.1.1) h
  have h2 : csem p.2 = csem q.2 := congrArg Prod.snd h
  exact Prod.ext h1 (csem_inj h2)

/-! ## The schedule -/

/-- What the right neighbour hands over at the barrier; what the left one does. -/
def barT (c : Dev nD) : sProp 𝕄 := iprop(held c top1 ∗ held c top2 ∗ held c top3)
def barB (c : Dev nD) : sProp 𝕄 := iprop(held c bot1 ∗ held c bot2 ∗ held c bot3)

/-- What completes on DMA cell `q` of device `c` in round `r`. -/
def payD (c : Dev nD) (r : ℕ) : ℕ → sProp 𝕄
  | 1 => hold c top0 fullShare (xT m c)
  | 2 => hold c bot0 fullShare (xB m c)
  | 3 => hold c top0 fullShare.left (xT m (prv^[0] c))
  | 4 => hold c top1 fullShare.left (xT m (prv^[1] c))
  | 5 => hold c top2 fullShare.left (xT m (prv^[2] c))
  | 6 => hold c top1 fullShare (xT m (prv^[1] c))
  | 7 => hold c top2 fullShare (xT m (prv^[2] c))
  | 8 => hold c top3 fullShare (xT m (prv^[3] c))
  | 9 => hold c bot0 fullShare.left (xB m (nxt^[0] c))
  | 10 => hold c bot1 fullShare.left (xB m (nxt^[1] c))
  | 11 => hold c bot2 fullShare.left (xB m (nxt^[2] c))
  | 12 => hold c bot1 fullShare (xB m (nxt^[1] c))
  | 13 => hold c bot2 fullShare (xB m (nxt^[2] c))
  | 14 => hold c bot3 fullShare (xB m (nxt^[3] c))
  | 15 => iprop(held c stg0 ∗ hold c (outT c (Fin.ofNat 4 r)) fullShare (oT m c r))
  | 16 => iprop(held c stg1 ∗ hold c (outB c (Fin.ofNat 4 r)) fullShare (oB m c r))
  | _ => iprop(emp)

/-- What a device's signal hands to the owner of a barrier: to the left neighbour (duty `true`) at the launch's barrier
    its slots of the first buffer, to the right one (duty `false`) those of the second. -/
def payR (c : Dev nD) (d : Bool) : ℕ → sProp 𝕄
  | 0 => match d with | true => barT (nxt c) | false => barB (prv c)
  | _ => iprop(emp)

/-- A cell's payload. -/
def payS (c : Dev nD) (sm : SemLoc sig) (r : ℕ) (d : Bool) : sProp 𝕄 :=
  match sm with
  | .reg s => payR c d s.val
  | .dma q => payD m c r q.val

/-- A cell's duties. -/
def dutS (sm : SemLoc sig) (r : ℕ) : Finset Bool :=
  match sm with
  | .reg _ => if r = 0 then {false, true} else ∅
  | .dma q => if q.val = 0 then ∅ else if r < (if 15 ≤ q.val then 4 else 1) then {false} else ∅

/-- What a duty contributes. -/
def amtS (sm : SemLoc sig) : ℕ :=
  match sm with
  | .reg _ => 1
  | .dma q => if 15 ≤ q.val then NO else N

/-- Every duty pays something. -/
theorem amtS_pos (sm : SemLoc sig) : 0 < amtS sm := by
  unfold amtS
  split
  · exact Nat.one_pos
  · split
    · exact NO_pos
    · exact N_pos

/-- The schedule. -/
def Rd : Rounds.Schedule (GSem nD τ sig) Bool 𝕄 where
  duties g r := if g.1.2 = .tc then dutS g.2 r else ∅
  unitless _ := False
  amount g _ _ := amtS g.2
  payload g r d := payS m g.1.1 g.2 r d
  amount_pos g _ _ _ := amtS_pos g.2

instance payD_storable (c : Dev nD) (r q : ℕ) : BI.Storable (upEmb : UEmb _ 𝕄) (payD m c r q) := by
  unfold payD; split <;> infer_instance
instance payR_storable (c : Dev nD) (d : Bool) (s : ℕ) : BI.Storable (upEmb : UEmb _ 𝕄) (payR (F := F) c d s) := by
  unfold payR barT barB; (repeat' split) <;> infer_instance
instance Rd_payload_storable (g : GSem nD τ sig) (r : ℕ) (d : Bool) : BI.Storable (upEmb : UEmb _ 𝕄) ((Rd m).payload g r d) := by
  show BI.Storable upEmb (payS m g.1.1 g.2 r d)
  unfold payS; split <;> infer_instance

/-- The duties of a cell of a device. -/
theorem duties_eq (c : Dev nD) (sm : SemLoc sig) (r : ℕ) : (Rd m).duties ((c : Thread nD τ), sm) r = dutS sm r := by
  dsimp only [Rd]; exact if_pos rfl
/-- What each pays. -/
theorem amount_eq (c : Dev nD) (sm : SemLoc sig) (r : ℕ) (d : Bool) : (Rd m).amount ((c : Thread nD τ), sm) r d = amtS sm := rfl
/-- What each hands over. -/
theorem payload_eq (c : Dev nD) (sm : SemLoc sig) (r : ℕ) (d : Bool) : (Rd m).payload ((c : Thread nD τ), sm) r d = payS m c sm r d := rfl

/-- At a barrier. -/
theorem payload_reg (c : Dev nD) (s : Sem sig) (r : ℕ) (d : Bool) : (Rd m).payload ((c : Thread nD τ), .reg s) r d = payR c d s.val := rfl
/-- At a copy. -/
theorem payload_dma (c : Dev nD) (q : DmaSem sig) (r : ℕ) (d : Bool) : (Rd m).payload ((c : Thread nD τ), .dma q) r d = payD m c r q.val := rfl

/-- What a round brings in all. -/
theorem expect_eq (c : Dev nD) (sm : SemLoc sig) (r : ℕ) : (Rd m).expect ((c : Thread nD τ), sm) r = (dutS sm r).card * amtS sm := by
  unfold Schedule.expect Schedule.amountOf
  rw [duties_eq, Finset.sum_congr rfl fun d _ => amount_eq m c sm r d, Finset.sum_const, smul_eq_mul]

/-- No duty after a cell's last round. -/
theorem duties_later (c : Dev nD) (sm : SemLoc sig) (R : ℕ) (hR : (if ∃ q : DmaSem sig, 15 ≤ q.val ∧ sm = .dma q then 4 else 1) ≤ R) :
    ∀ r, R ≤ r → (Rd m).duties ((c : Thread nD τ), sm) r = ∅ := fun r hr => by
  rw [duties_eq]; unfold dutS
  match sm with
  | .reg s => dsimp only; rw [if_neg (by split at hR <;> omega)]
  | .dma q =>
    dsimp only
    split
    · rfl
    · rw [if_neg]
      split
      · rw [if_pos ⟨q, by assumption, rfl⟩] at hR; omega
      · split at hR <;> omega

/-! ## What is owed, and the levels -/

/-- The tallies of a list of dues, the head paid first. -/
def owedL : List (GSem nD τ sig × ℕ) → CellTallies nD τ sig Unit
  | [] => 0
  | p :: l => owedL l + tallyAt p.1 () p.2

/-- What device `c` owes at launch, in the order it pays. -/
def dues (c : Dev nD) : List (GSem nD τ sig × ℕ) :=
  [(((prv c : Dev nD) : Thread nD τ), .reg bar, 1), (((nxt c : Dev nD) : Thread nD τ), .reg bar, 1),
   (((nxt c : Dev nD) : Thread nD τ), .dma 6, N), (((prv c : Dev nD) : Thread nD τ), .dma 12, N),
   (((nxt c : Dev nD) : Thread nD τ), .dma 7, N), (((prv c : Dev nD) : Thread nD τ), .dma 13, N),
   (((nxt c : Dev nD) : Thread nD τ), .dma 8, N), (((prv c : Dev nD) : Thread nD τ), .dma 14, N),
   (((prv c : Dev nD) : Thread nD τ), .reg bar2, 1), (((nxt c : Dev nD) : Thread nD τ), .reg bar2, 1)].map fun p => ((p.1, p.2.1), p.2.2)

/-- What device `c` owes at launch. -/
def O₀ (c : Dev nD) : CellTallies nD τ sig Unit := owedL (dues c)

/-- The cells' one index. -/
def L (g : GSem nD τ sig) : Finset Unit := if g.1.2 = .tc then {()} else ∅
/-- The level of a semaphore: the barrier 1, hop `h`'s receive cells `2 + h`, the closing barrier 5, the others 0. -/
def lvS (sm : SemLoc sig) : ℕ :=
  match sm with
  | .reg s => if s.val = 0 then 1 else 5
  | .dma q => if q.val = 6 ∨ q.val = 12 then 2 else if q.val = 7 ∨ q.val = 13 then 3 else if q.val = 8 ∨ q.val = 14 then 4 else 0
def lv (g : GSem nD τ sig) (_ : Unit) : ℕ := lvS g.2

/-- Only the devices' main threads have cells. -/
theorem L_of_ne (g : GSem nD τ sig) (h : g.1.2 ≠ .tc) : L g = ∅ := if_neg h
/-- And each of theirs has the one index. -/
theorem L_tc (c : Dev nD) (sm : SemLoc sig) : L ((c : Thread nD τ), sm) = {()} := if_pos rfl

/-- A cell something is owed to is on the list. -/
theorem owedL_pos {l : List (GSem nD τ sig × ℕ)} {g : GSem nD τ sig} {u : Unit} (h : 0 < owedL l g u) : ∃ p ∈ l, p.1 = g := by
  induction l with
  | nil => exact absurd h (Nat.lt_irrefl 0)
  | cons p l ih =>
    unfold owedL at h
    rw [Pi.add_apply, Finsupp.add_apply, tallyAt_apply] at h
    by_cases hp : p.1 = g
    · exact ⟨p, List.mem_cons_self, hp⟩
    · rw [if_neg fun h' => hp h'.1.symm, Nat.add_zero] at h
      obtain ⟨p', hp', e⟩ := ih h
      exact ⟨p', List.mem_cons_of_mem _ hp', e⟩

/-- A wait below everything owed. -/
theorem mayWait_of (c : Dev nD) (sm : SemLoc sig) (l : List (GSem nD τ sig × ℕ)) (h : ∀ p ∈ l, p.1.1.2 = .tc ∧ lvS sm < lvS p.1.2) :
    (levAts L lv : sProp 𝕄) ⊢ MayWait (c : Thread nD τ) sm () (owedL l) :=
  MayOwe.of_cut (L := L) (lev := lv) (lvS sm) (fun p hp => by rw [Finset.mem_singleton.mp hp, L_tc]; exact Finset.mem_singleton_self _)
    (fun g u hg => by
      obtain ⟨p, hp, rfl⟩ := owedL_pos hg
      unfold L; rw [if_pos (h p hp).1]; exact Finset.mem_singleton_self _)
    (fun p hp => by rw [Finset.mem_singleton.mp hp]; exact le_rfl)
    (fun g u hg => by
      obtain ⟨p, hp, rfl⟩ := owedL_pos hg
      exact (h p hp).2)

end Cert.KernelIdeal.Run

end
-- ==== Proof.KernelIdealRun.Steps.lean ====
/-
# The kernel's operations, one rule each

Every rule takes what device `c` holds before the operation and gives back what it holds after, over the schedule of
Protocol.lean: a signal, the two waits at a barrier, a transfer to a neighbour, a local transfer, the wait for a transfer
and the block computed from one slot.
-/
module

public import proofs.«01_k».proof.Proof.KernelIdealRun.Protocol

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What every device knows -/

/-- Every cell's invariant, that its round 0 is reached, and the levels. -/
def records (K : Dev nD × Fin 18 → ℕ) : sProp 𝕄 :=
  iprop(bigSep Finset.univ (fun p => iprop(cellInv ER (Rd m) (K p) (kcell p) ∗ reached ER (kcell p) 0)) ∗ levAts L lv)

instance records_persistent (K : Dev nD × Fin 18 → ℕ) : BI.Persistent (records m K) := by unfold records; infer_instance

variable (K : Dev nD × Fin 18 → ℕ)

/-- One of all. -/
theorem get_all {I : Type} [Fintype I] [DecidableEq I] (Φ : I → sProp 𝕄) (i : I) : bigSep Finset.univ Φ ⊢ Φ i :=
  bigSep_elim (Finset.mem_univ i)

/-- From the records, one cell's invariant, and that its first round is reached. -/
theorem records_cell (c : Dev nD) (k : Fin 18) (sm : SemLoc sig) (h : csem k = sm) :
    records m K ⊢ iprop(cellInv ER (Rd m) (K (c, k)) ((c : Thread nD τ), sm) ∗ reached ER ((c : Thread nD τ), sm) 0) := by
  subst h; unfold records
  iintro ⟨H, -⟩
  iapply (get_all (fun p => iprop(cellInv ER (Rd m) (K p) (kcell p) ∗ reached ER (kcell p) 0)) ((c, k) : Dev nD × Fin 18))
  iexact H

/-- From the records, the semaphores' levels. -/
theorem records_lev : records m K ⊢ levAts L lv := by
  unfold records; iintro ⟨-, H⟩; iexact H

/-- What device `c` still owes, the waits it has made left unsaid. -/
def due (c : Dev nD) (l : List (GSem nD τ sig × ℕ)) : sProp 𝕄 := iprop(∃ W, owes (c : Thread nD τ) (owedL l) W)

section Rules

/-- A signal of one unit to `c'`. -/
theorem step_signal {Ψ : PUnit.{1} → sProp 𝕄} {k : PUnit.{1} → Prog (TpuEff nD τ sig (Elt F) Λ₀ .tc) PUnit} (c n c' : Dev nD) (hn : n = c') (s : Sem sig) (d : Bool) (j : Fin 18) (hj : csem j = .reg s)
    (l : List (GSem nD τ sig × ℕ)) {w : ℕ} (hw : w = 1) :
    iprop(records m K ∗ due c ((((c' : Thread nD τ), .reg s), 1) :: l) ∗ dutyTok ER ((c' : Thread nD τ), .reg s) 0 d ∗ payR c' d s.val)
      ⊢ iprop((due c l -∗ wp frame (wpE (defs₀ (F := F)) 𝒱₀ (c : Thread nD τ) none) Set.univ (k ⟨⟩) Ψ)
          -∗ wp frame (wpE (defs₀ (F := F)) 𝒱₀ (c : Thread nD τ) none) Set.univ (.op (.semSignal (n : Thread nD τ) s w) k) Ψ) := by
  subst hn hw
  unfold due
  iintro ⟨#HR, ⟨%W, HO⟩, Ht, Hp⟩ Hk
  ihave #HC := (records_cell m K n j (.reg s) hj) $$ HR
  icases HC with ⟨#HI, #Hr⟩
  iapply (Rounds.wp_signal 𝒱₀ ER (Rd m) (c : Thread nD τ) none (dst := (n : Thread nD τ)) (κ := K (n, j)) (d := d) (r := 0)
      (by rw [duties_eq]; cases d <;> simp [dutS]) (amount_eq m n (.reg s) 0 d) () (owedL l) rfl) $$ [HO Ht Hp]
  · isplitr; · iexact HI
    isplitl [HO]; · iexact HO
    isplitl [Ht]; · iexact Ht
    isplitl [Hp]; · rw [payload_reg]; iexact Hp
    iexact Hr
  iintro HO
  iapply Hk; iexists W; iexact HO

/-- The wait for both neighbours' signals. -/
theorem step_barrier {Ψ : PUnit.{1} → sProp 𝕄} {k : PUnit.{1} → Prog (TpuEff nD τ sig (Elt F) Λ₀ .tc) PUnit} (c : Dev nD) (s : Sem sig) (j : Fin 18) (hj : csem j = .reg s) (l : List (GSem nD τ sig × ℕ))
    (hl : ∀ p ∈ l, p.1.1.2 = .tc ∧ lvS (.reg s) < lvS p.1.2) {w : ℕ} (hw : w = 2) :
    iprop(records m K ∗ due c l ∗ cred (tallyAt ((c : Thread nD τ), .reg s) () 2) ∗ atPos ER ((c : Thread nD τ), .reg s) 0 ∅ 0)
      ⊢ iprop(((due c l ∗ atPos ER ((c : Thread nD τ), .reg s) 1 ∅ 0 ∗ payR c false s.val ∗ payR c true s.val)
              -∗ wp frame (wpE (defs₀ (F := F)) 𝒱₀ (c : Thread nD τ) none) Set.univ (k ⟨⟩) Ψ)
          -∗ wp frame (wpE (defs₀ (F := F)) 𝒱₀ (c : Thread nD τ) none) Set.univ (.op (.semWait s w) k) Ψ) := by
  subst hw
  unfold due
  iintro ⟨#HR, ⟨%W, HO⟩, Hc, Hat⟩ Hk
  ihave #HC := (records_cell m K c j (.reg s) hj) $$ HR
  icases HC with ⟨#HI, -⟩
  iapply (Rounds.wp_wait_rest_token 𝒱₀ ER (Rd m) (c : Thread nD τ) none (κ := K (c, j))
      (wpE_semWait_eq 𝒱₀ (c : Thread nD τ) none Set.univ) (Set.mem_univ _) () (O := owedL l) (W := W) (R := 0) (m := 0) (T := ∅)
      (by rw [expect_eq]; rfl)) $$ [Hc HO Hat]
  · isplitr; · iexact HI
    isplitl [Hc]; · iexact Hc
    isplitl [HO]; · iexact HO
    isplitr; · iapply (mayWait_of c (.reg s) l hl); iapply (records_lev m K); iexact HR
    iexact Hat
  iintro ⟨HO, Hat, -, Hpay⟩
  ihave Hpay := (Entails.of_eq (show bigSep ((Rd m).duties ((c : Thread nD τ), .reg s) 0 \ ∅) (fun d => (Rd m).payload ((c : Thread nD τ), .reg s) 0 d)
      = iprop(payR (F := F) c false s.val ∗ payR c true s.val) by
    rw [Finset.sdiff_empty, duties_eq]
    show bigSep {false, true} _ = _
    rw [bigSep_eq_bigSepL_of_eq [false, true] (by decide) (by decide), bigSepL_cons_cons, bigSepL_singleton]
    rfl)) $$ Hpay
  iapply Hk
  isplitl [HO]; · iexists _; iexact HO
  isplitl [Hat]; · iexact Hat
  iexact Hpay

/-- The wait for a transfer's completion. -/
theorem step_wait {Ψ : PUnit.{1} → sProp 𝕄} {k : PUnit.{1} → Prog (TpuEff nD τ sig (Elt F) Λ₀ .tc) PUnit} (c : Dev nD) (s : DmaSem sig) (j : Fin 18) (hj : csem j = .dma s) (R A : ℕ) (hd : dutS (.dma s) R = {false})
    (hA : amtS (.dma s) = A) (l : List (GSem nD τ sig × ℕ)) (hl : ∀ p ∈ l, p.1.1.2 = .tc ∧ lvS (.dma s) < lvS p.1.2)
    {sp sp' : Space} {s₁ s₂ : Shape} {e₁ e₂ : EltTy} {src : Memref sig .tc sp' s₂ e₂} {dst : Memref sig .tc sp s₁ e₁} {hsrc : src.view.WordExact} {hdst : dst.view.WordExact}
    (hN : dst.view.dmaCredit = A) :
    iprop(records m K ∗ due c l ∗ cred (tallyAt ((c : Thread nD τ), .dma s) () A) ∗ atPos ER ((c : Thread nD τ), .dma s) R ∅ 0)
      ⊢ iprop(((due c l ∗ atPos ER ((c : Thread nD τ), .dma s) (R + 1) ∅ 0 ∗ reached ER ((c : Thread nD τ), .dma s) (R + 1) ∗ payD m c R s.val)
              -∗ wp frame (wpE (defs₀ (F := F)) 𝒱₀ (c : Thread nD τ) none) Set.univ (k ⟨⟩) Ψ)
          -∗ wp frame (wpE (defs₀ (F := F)) 𝒱₀ (c : Thread nD τ) none) Set.univ (.op (.waitDma2 s src dst hsrc hdst) k) Ψ) := by
  subst hA
  unfold due
  iintro ⟨#HR, ⟨%W, HO⟩, Hc, Hat⟩ Hk
  ihave #HC := (records_cell m K c j (.dma s) hj) $$ HR
  icases HC with ⟨#HI, -⟩
  iapply (Rounds.wp_wait_rest_token 𝒱₀ ER (Rd m) (c : Thread nD τ) none (κ := K (c, j))
      (wpE_waitDma2_eq 𝒱₀ (c : Thread nD τ) none Set.univ) (Set.mem_univ _) () (O := owedL l) (W := W) (R := R) (m := 0) (T := ∅)
      (by rw [expect_eq, hd, hN, Finset.card_singleton, Nat.one_mul, Nat.zero_add])) $$ [Hc HO Hat]
  · isplitr; · iexact HI
    isplitl [Hc]; · rw [hN]; iexact Hc
    isplitl [HO]; · iexact HO
    isplitr; · iapply (mayWait_of c (.dma s) l hl); iapply (records_lev m K); iexact HR
    iexact Hat
  iintro ⟨HO, Hat, Hr, Hpay⟩
  ihave Hpay := (Entails.of_eq (show bigSep ((Rd m).duties ((c : Thread nD τ), .dma s) R \ ∅) (fun d => (Rd m).payload ((c : Thread nD τ), .dma s) R d)
      = payD m c R s.val by rw [Finset.sdiff_empty, duties_eq, hd, bigSep_singleton]; rfl)) $$ Hpay
  iapply Hk
  isplitl [HO]; · iexists _; iexact HO
  isplitl [Hat]; · iexact Hat
  isplitl [Hr]; · iexact Hr
  iexact Hpay

/-- A transfer of a slot to a neighbour's slot: half the source lent until the send cell completes, the destination
    the neighbour's once the receive cell does. -/
theorem step_send {Ψ : PUnit.{1} → sProp 𝕄} {k : PUnit.{1} → Prog (TpuEff nD τ sig (Elt F) Λ₀ .tc) PUnit} (c n c' : Dev nD) (hn : n = c') (src dst : Memref sig .tc .vmem S512x4096 .bf16) (sS sR : DmaSem sig) (jS jR : Fin 18)
    (hjS : csem jS = .dma sS) (hjR : csem jR = .dma sR) (hdS : dutS (.dma sS) 0 = {false}) (hdR : dutS (.dma sR) 0 = {false})
    (haS : amtS (.dma sS) = N) (haR : amtS (.dma sR) = N) (hN : dst.view.dmaCredit = N) (X : S512x4096.Idx → Elt F .bf16)
    (hpS : payD m c 0 sS.val = hold c src fullShare.left X) (hpR : payD m c' 0 sR.val = hold c' dst fullShare X)
    (l : List (GSem nD τ sig × ℕ)) {hsc : dst.view.ref.isScScratch = false}
    {hsrc : src.view.WordExact} {hdst : dst.view.WordExact} {hsem : DmaTarget.Typed .vmem (.dma sR) (.remote (n : Thread nD τ) dst (.dma sS) hsc)} :
    iprop(records m K ∗ due c ((((c' : Thread nD τ), .dma sR), N) :: l) ∗ hold c src fullShare.left X ∗ held c' dst
        ∗ dutyTok ER ((c : Thread nD τ), .dma sS) 0 false ∗ dutyTok ER ((c' : Thread nD τ), .dma sR) 0 false)
      ⊢ iprop(((due c l ∗ cred (tallyAt ((c : Thread nD τ), .dma sS) () N)) -∗ wp frame (wpE (defs₀ (F := F)) 𝒱₀ (c : Thread nD τ) none) Set.univ (k ⟨⟩) Ψ)
          -∗ wp frame (wpE (defs₀ (F := F)) 𝒱₀ (c : Thread nD τ) none) Set.univ
              (.op (.enqueueDma src (.remote (n : Thread nD τ) dst (.dma sS) hsc) (.dma sR) hsrc hdst hsem) k) Ψ) := by
  subst hn
  unfold due held
  iintro ⟨#HR, ⟨%W, HO⟩, Hs, ⟨%fd, Hd⟩, HtS, HtR⟩ Hk
  ihave #HCS := (records_cell m K c jS (.dma sS) hjS) $$ HR
  icases HCS with ⟨#HIS, #HrS⟩
  ihave #HCR := (records_cell m K n jR (.dma sR) hjR) $$ HR
  icases HCR with ⟨#HIR, #HrR⟩
  iapply (Rounds.wp_send_pointsTo 𝒱₀ ER (Rd m) (c : Thread nD τ) none (κ₁ := K (c, jS)) (κ₂ := K (n, jR))
      (sS := .dma sS) (sem := .dma sR) (r₁ := 0) (r₂ := 0) (d₁ := false) (d₂ := false) (fs := src.view.rep X) (fd := fd) (q := fullShare.left)
      (by rw [duties_eq, hdS]; exact Finset.mem_singleton_self _) (by rw [duties_eq, hdR]; exact Finset.mem_singleton_self _)
      () () N hN (haS : amtS _ = N) (haR : amtS _ = N) (owedL l) rfl (W := W)
      (by rw [payload_eq]; exact Entails.of_eq hpS.symm)
      (by
        rw [payload_eq]
        refine BIBase.Entails.trans ?_ (Entails.of_eq hpR.symm)
        exact hold_of n dst fullShare _ X (by rw [View.read_write_univ, View.read_rep]))) $$ [HO Hs Hd HtS HtR]
  · isplitr; · iexact HIS
    isplitr; · iexact HIR
    isplitl [Hs]; · unfold hold; iexact Hs
    isplitl [Hd]; · iexact Hd
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-- The transfer of half the device's rows of `x` into a slot 0. -/
theorem step_load {Ψ : PUnit.{1} → sProp 𝕄} {k : PUnit.{1} → Prog (TpuEff nD τ sig (Elt F) Λ₀ .tc) PUnit} (c : Dev nD) (src : Memref sig .tc .hbm S512x4096 .bf16) (dst : Memref sig .tc .vmem S512x4096 .bf16) (s : DmaSem sig) (j : Fin 18)
    (hj : csem j = .dma s) (hd : dutS (.dma s) 0 = {false}) (ha : amtS (.dma s) = N) (hN : dst.view.dmaCredit = N)
    (q : PosShare TreeShare) (f : Buf (Elt F) (src.view.loc (c : Thread nD τ)))
    (hp : payD m c 0 s.val = hold c dst fullShare (src.view.read (Elt F) f))
    {hsrc : src.view.WordExact} {hdst : dst.view.WordExact} {hsem : DmaTarget.Typed (nD := nD) (p := (c : Thread nD τ).2) .hbm (.dma s) (.here dst)} :
    iprop(records m K ∗ (src.view.loc (c : Thread nD τ) ↦[src.view.set]{q} f) ∗ held c dst ∗ dutyTok ER ((c : Thread nD τ), .dma s) 0 false)
      ⊢ iprop((cred (tallyAt ((c : Thread nD τ), .dma s) () N) -∗ wp frame (wpE (defs₀ (F := F)) 𝒱₀ (c : Thread nD τ) none) Set.univ (k ⟨⟩) Ψ)
          -∗ wp frame (wpE (defs₀ (F := F)) 𝒱₀ (c : Thread nD τ) none) Set.univ (.op (.enqueueDma src (.here dst) (.dma s) hsrc hdst hsem) k) Ψ) := by
  unfold held
  iintro ⟨#HR, Hs, ⟨%fd, Hd⟩, Ht⟩ Hk
  ihave #HC := (records_cell m K c j (.dma s) hj) $$ HR
  icases HC with ⟨#HI, #Hr⟩
  iapply (Rounds.wp_copy_pointsTo 𝒱₀ ER (Rd m) (c : Thread nD τ) none (κ := K (c, j)) (sem := .dma s) (r := 0) (d := false) (fs := f) (fd := fd) (q := q)
      (by rw [duties_eq, hd]; exact Finset.mem_singleton_self _) () N (by exact hN) (by exact ha)
      (by
        rw [payload_eq]
        refine BIBase.Entails.trans ?_ (Entails.of_eq hp.symm)
        iintro ⟨H, -⟩
        iapply (hold_of c dst fullShare _ _ (View.read_write_univ _ _))
        iexact H)) $$ [Hs Hd Ht]
  · isplitr; · iexact HI
    isplitl [Hs]; · iexact Hs
    isplitl [Hd]; · iexact Hd
    isplitl [Ht]; · iexact Ht
    iexact Hr
  iexact Hk

/-- What a load through a buffer at a held slot's rectangle reads. -/
theorem load_slot (M : Memref sig .tc .vmem S4x512x4096 .bf16) (o : Fin 3 → ℕ) (inb : ∀ a, o a + S1x512x4096.size a ≤ S4x512x4096.size a)
    (X : S512x4096.Idx → Elt F .bf16) :
    M.view.readAt (Elt F) (Rect.unit (s := S4x512x4096) o S1x512x4096.size inb).toLoadRect ((slot4 M o inb).view.rep X) = addUnit X := by
  have h := View.read_rep (Val := Elt F) (slot4 M o inb).view X
  funext y
  have h' := congrFun h ((Shape.reshapeEquiv Gen.squeezes_S1x512x4096_S512x4096.numel_eq).symm y)
  refine Eq.trans ?_ (h'.trans ?_)
  · show _ = (M.view.slice (Rect.unit (s := S4x512x4096) o S1x512x4096.size inb)).read (Elt F) ((slot4 M o inb).view.rep X)
      ((Shape.reshapeEquiv Gen.squeezes_S1x512x4096_S512x4096.numel_eq) ((Shape.reshapeEquiv Gen.squeezes_S1x512x4096_S512x4096.numel_eq).symm y))
    rw [Equiv.apply_symm_apply]
    rfl
  · rfl

/-- The elements of a slot are those of the rectangle it is cut at. -/
theorem set_slot4 (M : Memref sig .tc .vmem S4x512x4096 .bf16) (o : Fin 3 → ℕ) (inb : ∀ a, o a + S1x512x4096.size a ≤ S4x512x4096.size a) :
    (slot4 M o inb).view.set = M.view.setOn (Rect.unit (s := S4x512x4096) o S1x512x4096.size inb).toLoadRect.set :=
  (View.set_reshape _ _).trans (View.set_slice _ _)

/-- The elements of a staging slot are those that an access at its rectangle touches. -/
theorem set_slot2 (o : Fin 3 → ℕ) (inb : ∀ a, o a + S1x512x2048.size a ≤ S2x512x2048.size a) :
    (slot2 o inb).view.set = (sM.access (Rect.unit (s := S2x512x2048) o S1x512x2048.size inb)).set :=
  View.set_reshape _ _

/-- A held slot, as an access through its buffer needs it. -/
theorem hold_slot4 (c : Dev nD) (M : Memref sig .tc .vmem S4x512x4096 .bf16) (o : Fin 3 → ℕ) (inb : ∀ a, o a + S1x512x4096.size a ≤ S4x512x4096.size a)
    (q : PosShare TreeShare) (X : S512x4096.Idx → Elt F .bf16) :
    (hold c (slot4 M o inb) q X : sProp 𝕄)
      = (M.view.loc (c : Thread nD τ) ↦[M.view.setOn (Rect.unit (s := S4x512x4096) o S1x512x4096.size inb).toLoadRect.set]{q}
          ((slot4 M o inb).view.rep X)) := by
  unfold hold; rw [← set_slot4]

/-- A staging slot with some contents, as an access through its buffer needs it. -/
theorem held_slot2 (c : Dev nD) (o : Fin 3 → ℕ) (inb : ∀ a, o a + S1x512x2048.size a ≤ S2x512x2048.size a) :
    (held c (slot2 o inb) : sProp 𝕄)
      = iprop(∃ f : Buf (Elt F) (sM.view.loc (c : Thread nD τ)), sM.view.loc (c : Thread nD τ)
          ↦[(sM.access (Rect.unit (s := S2x512x2048) o S1x512x2048.size inb)).set]{fullShare} f) := by
  unfold held; rw [← set_slot2]

/-- What the staging slot reads after the store of a vector at its rectangle. -/
theorem read_slot2 (o : Fin 3 → ℕ) (inb : ∀ a, o a + S1x512x2048.size a ≤ S2x512x2048.size a)
    (f : (sM.access (Rect.unit (s := S2x512x2048) o S1x512x2048.size inb)).ty.Contents (Elt F)) (v : S1x512x2048.Idx → Elt F .f32) :
    (slot2 o inb).view.read (Elt F) ((sM.access (Rect.unit (s := S2x512x2048) o S1x512x2048.size inb)).write (Elt F) f v Finset.univ)
      = shapeCast S512x2048 v Gen.squeezes_S1x512x2048_S512x2048.numel_eq := by
  funext y
  show (sM.access (Rect.unit (s := S2x512x2048) o S1x512x2048.size inb)).read (Elt F) _ (Shape.reshapeEquiv Gen.squeezes_S1x512x2048_S512x2048.numel_eq y) = _
  rw [View.read_write_univ]; rfl

/-- The block of one slot: the slot and the columns loaded, the block computed, staged and sent to the result. -/
theorem step_block {Ψ : PUnit.{1} → sProp 𝕄} {k : PUnit.{1} → Prog (TpuEff nD τ sig (Elt F) Λ₀ .tc) PUnit} (c : Dev nD) (M : Memref sig .tc .vmem S4x512x4096 .bf16) (o : Fin 3 → ℕ) (inb : ∀ a, o a + S1x512x4096.size a ≤ S4x512x4096.size a)
    (o' : Fin 3 → ℕ) (inb' : ∀ a, o' a + S1x512x2048.size a ≤ S2x512x2048.size a) (out : Memref sig .tc .hbm S512x2048 .f32)
    (s : DmaSem sig) (j : Fin 18) (hj : csem j = .dma s) (R : ℕ) (hd : dutS (.dma s) R = {false}) (ha : amtS (.dma s) = NO) (hN : out.view.dmaCredit = NO)
    (q : PosShare TreeShare) (X : S512x4096.Idx → Elt F .bf16) (w : (cc0_stg0_0 : Ref sig .tc).ty.Contents (Elt F))
    (hp : payD m c R s.val = iprop(held c (slot2 o' inb') ∗ hold c out fullShare (blkOf X w)))
    (pay : Vec F S1x512x4096 .bf16 → Vec F S4096x2048 .bf16 → Vec F S1x512x2048 .f32) (hpay : pay = k0_pay5)
    {z : Fin 2 → ℕ} {inbw : ∀ a, z a + S4096x2048.size a ≤ S4096x2048.size a} (hz : z = fun _ => 0)
    {hl hl' hl'' hst hst'} {hsrc : (slot2 o' inb').view.WordExact} {hdst : out.view.WordExact} {hsem : DmaTarget.Typed (nD := nD) (p := (c : Thread nD τ).2) .vmem (.dma s) (.here out)} :
    iprop(records m K ∗ hold c (slot4 M o inb) q X ∗ (((c : Thread nD τ).loc cc0_stg0_0) ↦{fullShare} w) ∗ held c (slot2 o' inb') ∗ held c out
        ∗ dutyTok ER ((c : Thread nD τ), .dma s) R false ∗ reached ER ((c : Thread nD τ), .dma s) R)
      ⊢ iprop(((hold c (slot4 M o inb) q X ∗ (((c : Thread nD τ).loc cc0_stg0_0) ↦{fullShare} w) ∗ cred (tallyAt ((c : Thread nD τ), .dma s) () NO))
              -∗ wp frame (wpE (defs₀ (F := F)) 𝒱₀ (c : Thread nD τ) none) Set.univ (k ⟨⟩) Ψ)
          -∗ wp frame (wpE (defs₀ (F := F)) 𝒱₀ (c : Thread nD τ) none) Set.univ
              (.op (.load M (Rect.unit (s := S4x512x4096) o S1x512x4096.size inb).toLoadRect hl) fun v =>
               .op (.load wM (Rect.unit (s := S4096x2048) z S4096x2048.size inbw).toLoadRect hl') fun v' =>
               .op (.load sM (Rect.unit (s := S2x512x2048) o' S1x512x2048.size inb').toLoadRect hl'') fun _ =>
               .op (.store sM (Rect.unit (s := S2x512x2048) o' S1x512x2048.size inb') (pay v v') Finset.univ hst hst') fun _ =>
               .op (.enqueueDma (slot2 o' inb') (.here out) (.dma s) hsrc hdst hsem) k) Ψ) := by
  subst hpay
  have ew : wM.view.readAt (Elt F) (Rect.unit (s := S4096x2048) z S4096x2048.size inbw).toLoadRect w = w :=
    Memref.readAt_unit_zero (Elt F) cc0_stg0_0 hz _ w
  rw [held_slot2, hold_slot4]
  unfold held
  iintro ⟨#HR, Hx, Hw, ⟨%fs, Hs⟩, ⟨%fd, Hd⟩, Ht, #Hr⟩ Hk
  ihave #HC := (records_cell m K c j (.dma s) hj) $$ HR
  icases HC with ⟨#HI, -⟩
  iapply (wp_load 𝒱₀ (c : Thread nD τ) none Set.univ (m := M) subset_rfl) $$ Hx
  iintro Hx
  rw [load_slot]
  iapply (wp_load 𝒱₀ (c : Thread nD τ) none Set.univ (m := wM) (Finset.subset_univ _)) $$ Hw
  iintro Hw
  rw [ew]
  iapply (wp_load 𝒱₀ (c : Thread nD τ) none Set.univ (m := sM) (View.set_slice _ _).ge) $$ Hs
  iintro Hs
  iapply (wp_store 𝒱₀ (c : Thread nD τ) none Set.univ (m := sM) (r := Rect.unit (s := S2x512x2048) o' S1x512x2048.size inb') (Mk := Finset.univ)
      (S := (sM.access (Rect.unit (s := S2x512x2048) o' S1x512x2048.size inb')).set) (f := fs) (by rw [View.setOn_univ])) $$ Hs
  iintro Hs
  iapply (Rounds.wp_copy_pointsTo 𝒱₀ ER (Rd m) (c : Thread nD τ) none (κ := K (c, j)) (sem := .dma s) (r := R) (d := false)
      (src := slot2 o' inb') (fs := (sM.access (Rect.unit (s := S2x512x2048) o' S1x512x2048.size inb')).write (Elt F) fs (k0_pay5 (addUnit X) w) Finset.univ) (fd := fd) (q := fullShare)
      (by rw [duties_eq, hd]; exact Finset.mem_singleton_self _) () NO (by exact hN) (by exact ha)
      (by
        rw [payload_dma]
        refine BIBase.Entails.trans ?_ (Entails.of_eq hp.symm)
        unfold held
        iintro ⟨H1, H2⟩
        isplitl [H2]
        · iexists _; iexact H2
        iapply (hold_of c out fullShare _ _ ((View.read_write_univ _ _).trans (read_slot2 o' inb' fs _)))
        iexact H1)) $$ [Hs Hd Ht]
  · isplitr; · iexact HI
    isplitl [Hs]; · rw [set_slot2]; iexact Hs
    isplitl [Hd]; · iexact Hd
    isplitl [Ht]; · iexact Ht
    iexact Hr
  iintro Hc
  iapply Hk
  isplitl [Hx]; · iexact Hx
  isplitl [Hw]; · iexact Hw
  iexact Hc

end Rules

end Cert.KernelIdeal.Run

end
-- ==== Proof.KernelIdealRun.Body.lean ====
/-
# The kernel's body on one device

What device `c` starts from, what it ends with, and the body run from the one to the other, one rule per operation in
program order. The device is a variable: the proof is the same on all four.
-/
module

public import proofs.«01_k».proof.Proof.KernelIdealRun.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The position at a cell of `c`: round `R`, nothing taken. -/
abbrev atP (c : Dev nD) (sm : SemLoc sig) (R : ℕ) : sProp 𝕄 := atPos ER ((c : Thread nD τ), sm) R ∅ 0
/-- The right to pay a duty at a cell of `c`. -/
abbrev tok (c : Dev nD) (sm : SemLoc sig) (r : ℕ) (d : Bool) : sProp 𝕄 := dutyTok ER ((c : Thread nD τ), sm) r d
/-- Credit for a wait at a cell of `c`. -/
abbrev cr (c : Dev nD) (sm : SemLoc sig) (n : ℕ) : sProp 𝕄 := cred (tallyAt ((c : Thread nD τ), sm) () n)
/-- A cell of `c` closed, its counter at zero. -/
abbrev sv (c : Dev nD) (sm : SemLoc sig) : sProp 𝕄 := semVal ((c : Thread nD τ), sm) 0

/-- Device `c`'s positions. -/
def posAll (c : Dev nD) : sProp 𝕄 :=
  iprop(atP c (.reg 0) 0 ∗ atP c (.reg 1) 0 ∗ atP c (.dma 1) 0 ∗ atP c (.dma 2) 0 ∗ atP c (.dma 3) 0 ∗ atP c (.dma 4) 0 ∗ atP c (.dma 5) 0
    ∗ atP c (.dma 6) 0 ∗ atP c (.dma 7) 0 ∗ atP c (.dma 8) 0 ∗ atP c (.dma 9) 0 ∗ atP c (.dma 10) 0 ∗ atP c (.dma 11) 0
    ∗ atP c (.dma 12) 0 ∗ atP c (.dma 13) 0 ∗ atP c (.dma 14) 0 ∗ atP c (.dma 15) 0 ∗ atP c (.dma 16) 0)

/-- The duties device `c` pays. -/
def tokAll (c : Dev nD) : sProp 𝕄 :=
  iprop(tok (prv c) (.reg 0) 0 true ∗ tok (nxt c) (.reg 0) 0 false ∗ tok (prv c) (.reg 1) 0 true ∗ tok (nxt c) (.reg 1) 0 false
    ∗ tok c (.dma 1) 0 false ∗ tok c (.dma 2) 0 false
    ∗ tok c (.dma 3) 0 false ∗ tok c (.dma 4) 0 false ∗ tok c (.dma 5) 0 false
    ∗ tok (nxt c) (.dma 6) 0 false ∗ tok (nxt c) (.dma 7) 0 false ∗ tok (nxt c) (.dma 8) 0 false
    ∗ tok c (.dma 9) 0 false ∗ tok c (.dma 10) 0 false ∗ tok c (.dma 11) 0 false
    ∗ tok (prv c) (.dma 12) 0 false ∗ tok (prv c) (.dma 13) 0 false ∗ tok (prv c) (.dma 14) 0 false
    ∗ tok c (.dma 15) 0 false ∗ tok c (.dma 15) 1 false ∗ tok c (.dma 15) 2 false ∗ tok c (.dma 15) 3 false
    ∗ tok c (.dma 16) 0 false ∗ tok c (.dma 16) 1 false ∗ tok c (.dma 16) 2 false ∗ tok c (.dma 16) 3 false)

/-- The credit device `c` has from the launch: for what the others owe its cells. -/
def crAll (c : Dev nD) : sProp 𝕄 :=
  iprop(cr c (.reg 0) 2 ∗ cr c (.dma 6) N ∗ cr c (.dma 12) N ∗ cr c (.dma 7) N ∗ cr c (.dma 13) N ∗ cr c (.dma 8) N ∗ cr c (.dma 14) N ∗ cr c (.reg 1) 2)

/-- Device `c`'s slots, whatever they hold. -/
def slotsAll (c : Dev nD) : sProp 𝕄 :=
  iprop((held c top0 ∗ held c top1 ∗ held c top2 ∗ held c top3) ∗ (held c bot0 ∗ held c bot1 ∗ held c bot2 ∗ held c bot3) ∗ (held c stg0 ∗ held c stg1))

/-- The blocks of device `c`'s result, whatever they hold. -/
def outsAny (c : Dev nD) : sProp 𝕄 :=
  iprop(held c (outT c 0) ∗ held c (outT c 1) ∗ held c (outT c 2) ∗ held c (outT c 3) ∗ held c (outB c 0) ∗ held c (outB c 1) ∗ held c (outB c 2) ∗ held c (outB c 3))

/-- The blocks of device `c`'s result, written. -/
def outsDone (c : Dev nD) : sProp 𝕄 :=
  iprop((hold c (outT c 0) fullShare (oT m c 0) ∗ hold c (outT c 1) fullShare (oT m c 1) ∗ hold c (outT c 2) fullShare (oT m c 2) ∗ hold c (outT c 3) fullShare (oT m c 3))
    ∗ (hold c (outB c 0) fullShare (oB m c 0) ∗ hold c (outB c 1) fullShare (oB m c 1) ∗ hold c (outB c 2) fullShare (oB m c 2) ∗ hold c (outB c 3) fullShare (oB m c 3)))

/-- Device `c`'s rows of `x`, as the two loads read them. -/
def rowsX (c : Dev nD) : sProp 𝕄 :=
  iprop((xTop.view.loc (c : Thread nD τ) ↦[xTop.view.set]{fullShare.left.left} m ((c : Thread nD τ).loc main_arg0))
    ∗ (xBot.view.loc (c : Thread nD τ) ↦[xBot.view.set]{fullShare.left.right} m ((c : Thread nD τ).loc main_arg0)))

/-- Device `c`'s cells, closed. -/
def closedAll (c : Dev nD) : sProp 𝕄 :=
  iprop(sv c (.reg 0) ∗ sv c (.reg 1) ∗ sv c (.dma 1) ∗ sv c (.dma 2) ∗ sv c (.dma 3) ∗ sv c (.dma 4) ∗ sv c (.dma 5)
    ∗ sv c (.dma 6) ∗ sv c (.dma 7) ∗ sv c (.dma 8) ∗ sv c (.dma 9) ∗ sv c (.dma 10) ∗ sv c (.dma 11)
    ∗ sv c (.dma 12) ∗ sv c (.dma 13) ∗ sv c (.dma 14) ∗ sv c (.dma 15) ∗ sv c (.dma 16))

variable (K : Dev nD × Fin 18 → ℕ)

/-- The staged columns. -/
def stagedW (c : Dev nD) : sProp 𝕄 := ((c : Thread nD τ).loc cc0_stg0_0) ↦{fullShare} wS m c

/-- An offset of zeros. -/
theorem hz2 : (![0, 0] : Fin 2 → ℕ) = fun _ => 0 := by funext a; fin_cases a <;> rfl

/-! ## What is still owed after each payment -/

abbrev dl10 (c : Dev nD) : List (GSem nD τ sig × ℕ) := []
abbrev dl9 (c : Dev nD) : List (GSem nD τ sig × ℕ) := ((((nxt c : Dev nD) : Thread nD τ), .reg bar2), 1) :: dl10 c
abbrev dl8 (c : Dev nD) : List (GSem nD τ sig × ℕ) := ((((prv c : Dev nD) : Thread nD τ), .reg bar2), 1) :: dl9 c
abbrev dl7 (c : Dev nD) : List (GSem nD τ sig × ℕ) := ((((prv c : Dev nD) : Thread nD τ), .dma 14), N) :: dl8 c
abbrev dl6 (c : Dev nD) : List (GSem nD τ sig × ℕ) := ((((nxt c : Dev nD) : Thread nD τ), .dma 8), N) :: dl7 c
abbrev dl5 (c : Dev nD) : List (GSem nD τ sig × ℕ) := ((((prv c : Dev nD) : Thread nD τ), .dma 13), N) :: dl6 c
abbrev dl4 (c : Dev nD) : List (GSem nD τ sig × ℕ) := ((((nxt c : Dev nD) : Thread nD τ), .dma 7), N) :: dl5 c
abbrev dl3 (c : Dev nD) : List (GSem nD τ sig × ℕ) := ((((prv c : Dev nD) : Thread nD τ), .dma 12), N) :: dl4 c
abbrev dl2 (c : Dev nD) : List (GSem nD τ sig × ℕ) := ((((nxt c : Dev nD) : Thread nD τ), .dma 6), N) :: dl3 c
abbrev dl1 (c : Dev nD) : List (GSem nD τ sig × ℕ) := ((((nxt c : Dev nD) : Thread nD τ), .reg bar), 1) :: dl2 c
abbrev dl0 (c : Dev nD) : List (GSem nD τ sig × ℕ) := ((((prv c : Dev nD) : Thread nD τ), .reg bar), 1) :: dl1 c
/-- At the start everything is owed. -/
theorem dues_dl (c : Dev nD) : dues c = dl0 c := rfl

/-! ## The payloads as the body meets them -/

/-- The rows `h + 1` places to the left of the right neighbour are those `h` places to the left of the device. -/
theorem up_T (c : Dev nD) (h : ℕ) : prv^[h + 1] (nxt c) = prv^[h] c := by rw [Function.iterate_succ_apply, prv_nxt]
/-- The same in the other direction. -/
theorem up_B (c : Dev nD) (h : ℕ) : nxt^[h + 1] (prv c) = nxt^[h] c := by rw [Function.iterate_succ_apply, nxt_prv]

/-- The signal to the left neighbour hands over this device's slots for the first rows. -/
theorem pay_bar_prv (c : Dev nD) : (payR (prv c) true (0 : Sem sig).val : sProp 𝕄) = barT c := by
  show barT (nxt (prv c)) = _; rw [nxt_prv]
/-- The signal to the right neighbour hands over this device's slots for the second rows. -/
theorem pay_bar_nxt (c : Dev nD) : (payR (nxt c) false (0 : Sem sig).val : sProp 𝕄) = barB c := by
  show barB (prv (nxt c)) = _; rw [prv_nxt]

/-- Hop 0 hands the neighbour slot 1 with the first rows that this device had in slot 0. -/
theorem pay_recvT0 (c : Dev nD) : payD m (nxt c) 0 (6 : DmaSem sig).val = hold (nxt c) top1 fullShare (xT m (prv^[0] c)) := by
  show hold _ _ _ (xT m (prv^[0 + 1] (nxt c))) = _; rw [up_T]
/-- Hop 0 hands the neighbour slot 1 with the second rows that this device had in slot 0. -/
theorem pay_recvB0 (c : Dev nD) : payD m (prv c) 0 (12 : DmaSem sig).val = hold (prv c) bot1 fullShare (xB m (nxt^[0] c)) := by
  show hold _ _ _ (xB m (nxt^[0 + 1] (prv c))) = _; rw [up_B]
/-- Hop 1 hands the neighbour slot 2 with the first rows that this device had in slot 1. -/
theorem pay_recvT1 (c : Dev nD) : payD m (nxt c) 0 (7 : DmaSem sig).val = hold (nxt c) top2 fullShare (xT m (prv^[1] c)) := by
  show hold _ _ _ (xT m (prv^[1 + 1] (nxt c))) = _; rw [up_T]
/-- Hop 1 hands the neighbour slot 2 with the second rows that this device had in slot 1. -/
theorem pay_recvB1 (c : Dev nD) : payD m (prv c) 0 (13 : DmaSem sig).val = hold (prv c) bot2 fullShare (xB m (nxt^[1] c)) := by
  show hold _ _ _ (xB m (nxt^[1 + 1] (prv c))) = _; rw [up_B]
/-- Hop 2 hands the neighbour slot 3 with the first rows that this device had in slot 2. -/
theorem pay_recvT2 (c : Dev nD) : payD m (nxt c) 0 (8 : DmaSem sig).val = hold (nxt c) top3 fullShare (xT m (prv^[2] c)) := by
  show hold _ _ _ (xT m (prv^[2 + 1] (nxt c))) = _; rw [up_T]
/-- Hop 2 hands the neighbour slot 3 with the second rows that this device had in slot 2. -/
theorem pay_recvB2 (c : Dev nD) : payD m (prv c) 0 (14 : DmaSem sig).val = hold (prv c) bot3 fullShare (xB m (nxt^[2] c)) := by
  show hold _ _ _ (xB m (nxt^[2 + 1] (prv c))) = _; rw [up_B]

/-- The first round's arithmetic is cut over two names; it is the other rounds'. -/
theorem pay_first (v : Vec F S1x512x4096 .bf16) (w : Vec F S4096x2048 .bf16) : k0_pay2 (k0_pay1 v w) (Scalar.ofBits .f32 0x00000000#32) = k0_pay5 v w := rfl
/-- So is the second half of the first round. -/
theorem pay_first' (v : Vec F S1x512x4096 .bf16) (w : Vec F S4096x2048 .bf16) : k0_pay4 (k0_pay3 v w) = k0_pay5 v w := rfl
/-- The later rounds' arithmetic is one term. -/
theorem k0_pay6_eq : k0_pay6 (F := F) = k0_pay5 := rfl
/-- The later rounds' arithmetic is one term. -/
theorem k0_pay7_eq : k0_pay7 (F := F) = k0_pay5 := rfl
/-- The later rounds' arithmetic is one term. -/
theorem k0_pay8_eq : k0_pay8 (F := F) = k0_pay5 := rfl
/-- The later rounds' arithmetic is one term. -/
theorem k0_pay9_eq : k0_pay9 (F := F) = k0_pay5 := rfl
/-- The later rounds' arithmetic is one term. -/
theorem k0_pay10_eq : k0_pay10 (F := F) = k0_pay5 := rfl

/-- Nothing is handed over at the closing barrier. -/
theorem pay_bar2 (c : Dev nD) (d : Bool) : (emp : sProp 𝕄) ⊢ payR c d (1 : Sem sig).val := BIBase.Entails.rfl

/-- A cell closes once its last round is done. -/
theorem close_one (c : Dev nD) (j : Fin 18) (sm : SemLoc sig) (hj : csem j = sm) (R : ℕ)
    (hR : (if ∃ q : DmaSem sig, 15 ≤ q.val ∧ sm = .dma q then 4 else 1) ≤ R) :
    iprop(records m K ∗ atP (F := F) c sm R) ⊢ iprop(|={Set.univ}=> sv c sm) := by
  iintro ⟨#HR, H⟩
  ihave #HC := (records_cell m K c j sm hj) $$ HR
  icases HC with ⟨#HI, -⟩
  imod (Rounds.cell_close ER (Rd m) (Set.mem_univ (K (c, j))) (fun h => h) (R := R) (duties_later m c sm R hR)) $$ [H] with Hz
  · isplitr; · iexact HI
    iexact H
  imodintro; iexact Hz

/-! ## The body -/

/-- What the body starts from. -/
def bodyStart (c : Dev nD) : sProp 𝕄 :=
  iprop(records m K ∗ posAll c ∗ tokAll c ∗ crAll c ∗ slotsAll c ∗ outsAny c ∗ rowsX m c ∗ due c (dl0 c) ∗ stagedW m c)

/-- What it ends with. -/
def bodyEnd (c : Dev nD) : sProp 𝕄 :=
  iprop(slotsAll c ∗ outsDone m c ∗ closedAll c ∗ due c (dl10 c) ∗ stagedW m c)

set_option maxHeartbeats 4000000 in
/-- The body on device `c`, one rule per operation in program order. -/
theorem sound_body (c : Dev nD) (Kt : PUnit.{1} → sProp 𝕄) :
    iprop(bodyStart m K c ∗ (bodyEnd m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8 cc0_scoped0) Kt := by
  simp only [cc0_body_eq_skeleton]; unfold cc0_body_skel
  unfold bodyStart posAll tokAll crAll slotsAll outsAny rowsX
  iintro ⟨⟨#HR, ⟨Ab, Ab2, A1, A2, A3, A4, A5, A6, A7, A8, A9, A10, A11, A12, A13, A14, A15, A16⟩,
    ⟨Tbp, Tbn, Tb2p, Tb2n, T1, T2, T3, T4, T5, T6, T7, T8, T9, T10, T11, T12, T13, T14, T15_0, T15_1, T15_2, T15_3, T16_0, T16_1, T16_2, T16_3⟩,
    ⟨Cb, C6, C12, C7, C13, C8, C14, Cb2⟩, ⟨⟨t0, t1, t2, t3⟩, ⟨b0, b1, b2, b3⟩, ⟨s0, s1⟩⟩, ⟨o0, o1, o2, o3, u0, u1, u2, u3⟩, ⟨Hx, Hx'⟩, HO, Hw⟩, Hk⟩
  unfold stagedW
  -- statements of part 1
  simp only [k0_part1_eq_skeleton, k0_part1_skel]
  simp only [semSignalWord, semWaitWord, Prog.lift, Prog.bind_op, Prog.bind_ret, Prog.pure_eq_ret, Prog.bind_assoc, wp_deviceId]
  iapply (step_load m K c xTop top0 1 2 rfl rfl rfl rfl _ _ rfl) $$ [Hx t0 T1]
  · isplitr; · iexact HR
    isplitl [Hx]; · iexact Hx
    isplitl [t0]; · iexact t0
    iexact T1
  iintro C1
  -- statements of part 2
  simp only [k0_part2_eq_skeleton, k0_part2_skel]
  simp only [semSignalWord, semWaitWord, Prog.lift, Prog.bind_op, Prog.bind_ret, Prog.pure_eq_ret, Prog.bind_assoc, wp_deviceId]
  iapply (step_load m K c xBot bot0 2 3 rfl rfl rfl rfl _ _ rfl) $$ [Hx' b0 T2]
  · isplitr; · iexact HR
    isplitl [Hx']; · iexact Hx'
    isplitl [b0]; · iexact b0
    iexact T2
  iintro C2
  iapply (step_signal m K c _ (prv c) (dev1_eq c) 0 true 0 rfl (dl1 c) rfl) $$ [HO Tbp t1 t2 t3]
  · isplitr; · iexact HR
    isplitl [HO]; · iexact HO
    isplitl [Tbp]; · iexact Tbp
    rw [pay_bar_prv]; unfold barT
    isplitl [t1]; · iexact t1
    isplitl [t2]; · iexact t2
    iexact t3
  iintro HO
  iapply (step_signal m K c _ (nxt c) (dev2_eq c) 0 false 0 rfl (dl2 c) rfl) $$ [HO Tbn b1 b2 b3]
  · isplitr; · iexact HR
    isplitl [HO]; · iexact HO
    isplitl [Tbn]; · iexact Tbn
    rw [pay_bar_nxt]; unfold barB
    isplitl [b1]; · iexact b1
    isplitl [b2]; · iexact b2
    iexact b3
  iintro HO
  iapply (step_barrier m K c 0 0 rfl (dl2 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩⟩⟩⟩⟩) rfl) $$ [HO Cb Ab]
  · isplitr; · iexact HR
    isplitl [HO]; · iexact HO
    isplitl [Cb]; · iexact Cb
    iexact Ab
  iintro ⟨HO, Ab, Hf, Ht⟩
  ihave Hf := (Entails.of_eq (show (payR c false (0 : Sem sig).val : sProp 𝕄) = iprop(held (prv c) bot1 ∗ held (prv c) bot2 ∗ held (prv c) bot3) from rfl)) $$ Hf
  icases Hf with ⟨p1, p2, p3⟩
  ihave Ht := (Entails.of_eq (show (payR c true (0 : Sem sig).val : sProp 𝕄) = iprop(held (nxt c) top1 ∗ held (nxt c) top2 ∗ held (nxt c) top3) from rfl)) $$ Ht
  icases Ht with ⟨n1, n2, n3⟩
  iapply (step_wait m K c 1 2 rfl 0 N rfl rfl (dl2 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩⟩⟩⟩⟩) (dst := top0) rfl) $$ [HO C1 A1]
  · isplitr; · iexact HR
    isplitl [HO]; · iexact HO
    isplitl [C1]; · iexact C1
    iexact A1
  iintro ⟨HO, A1, #Hr1_1, Hp⟩
  ihave Hp := (Entails.of_eq (show payD m c 0 (1 : DmaSem sig).val = hold c top0 fullShare (xT m (prv^[0] c)) from rfl)) $$ Hp
  icases Hp with t0
  iapply (step_wait m K c 2 3 rfl 0 N rfl rfl (dl2 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩⟩⟩⟩⟩) (dst := bot0) rfl) $$ [HO C2 A2]
  · isplitr; · iexact HR
    isplitl [HO]; · iexact HO
    isplitl [C2]; · iexact C2
    iexact A2
  iintro ⟨HO, A2, #Hr2_1, Hp⟩
  ihave Hp := (Entails.of_eq (show payD m c 0 (2 : DmaSem sig).val = hold c bot0 fullShare (xB m (nxt^[0] c)) from rfl)) $$ Hp
  icases Hp with b0
  ihave t0 := (hold_halves c top0 (xT m (prv^[0] c))).1 $$ t0
  icases t0 with ⟨t0l, t0⟩
  ihave b0 := (hold_halves c bot0 (xB m (nxt^[0] c))).1 $$ b0
  icases b0 with ⟨b0l, b0⟩
  -- statements of part 3
  simp only [k0_part3_eq_skeleton, k0_part3_skel]
  simp only [semSignalWord, semWaitWord, Prog.lift, Prog.bind_op, Prog.bind_ret, Prog.pure_eq_ret, Prog.bind_assoc, wp_deviceId]
  iapply (step_send m K c _ (nxt c) (dev3_eq c) top0 top1 3 6 4 7 rfl rfl rfl rfl rfl rfl rfl (xT m (prv^[0] c)) rfl (pay_recvT0 m c) (dl3 c)) $$ [HO t0l n1 T3 T6]
  · isplitr; · iexact HR
    isplitl [HO]; · iexact HO
    isplitl [t0l]; · iexact t0l
    isplitl [n1]; · iexact n1
    isplitl [T3]; · iexact T3
    iexact T6
  iintro ⟨HO, C3⟩
  iapply (step_send m K c _ (prv c) (dev4_eq c) bot0 bot1 9 12 10 13 rfl rfl rfl rfl rfl rfl rfl (xB m (nxt^[0] c)) rfl (pay_recvB0 m c) (dl4 c)) $$ [HO b0l p1 T9 T12]
  · isplitr; · iexact HR
    isplitl [HO]; · iexact HO
    isplitl [b0l]; · iexact b0l
    isplitl [p1]; · iexact p1
    isplitl [T9]; · iexact T9
    iexact T12
  iintro ⟨HO, C9⟩
  -- statements of part 4
  simp only [k0_part4_eq_skeleton, k0_part4_skel]
  simp only [semSignalWord, semWaitWord, Prog.lift, Prog.bind_op, Prog.bind_ret, Prog.pure_eq_ret, Prog.bind_assoc, wp_deviceId]
  simp only [pay_first]
  iapply (step_block m K c tM ![0, 0, 0] Gen.inb_S4x512x4096_S1x512x4096_0_0_0 ![0, 0, 0] Gen.inb_S2x512x2048_S1x512x2048_0_0_0 (outT c 0) 15 16 rfl 0 rfl rfl rfl fullShare.right (xT m (prv^[0] c)) (wS m c) rfl k0_pay5 rfl hz2) $$ [t0 Hw s0 o0 T15_0]
  · isplitr; · iexact HR
    isplitl [t0]; · iexact t0
    isplitl [Hw]; · iexact Hw
    isplitl [s0]; · iexact s0
    isplitl [o0]; · iexact o0
    isplitl [T15_0]; · iexact T15_0
    ihave HC := (records_cell m K c 16 (.dma 15) rfl) $$ HR
    icases HC with ⟨-, Hr⟩; iexact Hr
  iintro ⟨t0, Hw, C15⟩
  -- statements of part 5
  simp only [k0_part5_eq_skeleton, k0_part5_skel]
  simp only [semSignalWord, semWaitWord, Prog.lift, Prog.bind_op, Prog.bind_ret, Prog.pure_eq_ret, Prog.bind_assoc, wp_deviceId]
  simp only [pay_first']
  iapply (step_block m K c bM ![0, 0, 0] Gen.inb_S4x512x4096_S1x512x4096_0_0_0 ![1, 0, 0] Gen.inb_S2x512x2048_S1x512x2048_1_0_0 (outB c 0) 16 17 rfl 0 rfl rfl rfl fullShare.right (xB m (nxt^[0] c)) (wS m c) rfl k0_pay5 rfl hz2) $$ [b0 Hw s1 u0 T16_0]
  · isplitr; · iexact HR
    isplitl [b0]; · iexact b0
    isplitl [Hw]; · iexact Hw
    isplitl [s1]; · iexact s1
    isplitl [u0]; · iexact u0
    isplitl [T16_0]; · iexact T16_0
    ihave HC := (records_cell m K c 17 (.dma 16) rfl) $$ HR
    icases HC with ⟨-, Hr⟩; iexact Hr
  iintro ⟨b0, Hw, C16⟩
  iapply (step_wait m K c 6 7 rfl 0 N rfl rfl (dl4 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩⟩⟩) (dst := top1) rfl) $$ [HO C6 A6]
  · isplitr; · iexact HR
    isplitl [HO]; · iexact HO
    isplitl [C6]; · iexact C6
    iexact A6
  iintro ⟨HO, A6, #Hr6_1, Hp⟩
  ihave Hp := (Entails.of_eq (show payD m c 0 (6 : DmaSem sig).val = hold c top1 fullShare (xT m (prv^[1] c)) from rfl)) $$ Hp
  icases Hp with t1
  iapply (step_wait m K c 12 13 rfl 0 N rfl rfl (dl4 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩⟩⟩) (dst := bot1) rfl) $$ [HO C12 A12]
  · isplitr; · iexact HR
    isplitl [HO]; · iexact HO
    isplitl [C12]; · iexact C12
    iexact A12
  iintro ⟨HO, A12, #Hr12_1, Hp⟩
  ihave Hp := (Entails.of_eq (show payD m c 0 (12 : DmaSem sig).val = hold c bot1 fullShare (xB m (nxt^[1] c)) from rfl)) $$ Hp
  icases Hp with b1
  -- statements of part 6
  simp only [k0_part6_eq_skeleton, k0_part6_skel]
  simp only [semSignalWord, semWaitWord, Prog.lift, Prog.bind_op, Prog.bind_ret, Prog.pure_eq_ret, Prog.bind_assoc, wp_deviceId]
  ihave t1 := (hold_halves c top1 (xT m (prv^[1] c))).1 $$ t1
  icases t1 with ⟨t1l, t1⟩
  ihave b1 := (hold_halves c bot1 (xB m (nxt^[1] c))).1 $$ b1
  icases b1 with ⟨b1l, b1⟩
  iapply (step_send m K c _ (nxt c) (dev5_eq c) top1 top2 4 7 5 8 rfl rfl rfl rfl rfl rfl rfl (xT m (prv^[1] c)) rfl (pay_recvT1 m c) (dl5 c)) $$ [HO t1l n2 T4 T7]
  · isplitr; · iexact HR
    isplitl [HO]; · iexact HO
    isplitl [t1l]; · iexact t1l
    isplitl [n2]; · iexact n2
    isplitl [T4]; · iexact T4
    iexact T7
  iintro ⟨HO, C4⟩
  iapply (step_send m K c _ (prv c) (dev6_eq c) bot1 bot2 10 13 11 14 rfl rfl rfl rfl rfl rfl rfl (xB m (nxt^[1] c)) rfl (pay_recvB1 m c) (dl6 c)) $$ [HO b1l p2 T10 T13]
  · isplitr; · iexact HR
    isplitl [HO]; · iexact HO
    isplitl [b1l]; · iexact b1l
    isplitl [p2]; · iexact p2
    isplitl [T10]; · iexact T10
    iexact T13
  iintro ⟨HO, C10⟩
  -- statements of part 7
  simp only [k0_part7_eq_skeleton, k0_part7_skel]
  simp only [semSignalWord, semWaitWord, Prog.lift, Prog.bind_op, Prog.bind_ret, Prog.pure_eq_ret, Prog.bind_assoc, wp_deviceId]
  iapply (step_wait m K c 15 16 rfl 0 NO rfl rfl (dl6 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩) (dst := outT c 0) rfl) $$ [HO C15 A15]
  · isplitr; · iexact HR
    isplitl [HO]; · iexact HO
    isplitl [C15]; · iexact C15
    iexact A15
  iintro ⟨HO, A15, #Hr15_1, Hp⟩
  ihave Hp := (Entails.of_eq (show payD m c 0 (15 : DmaSem sig).val = iprop(held c stg0 ∗ hold c (outT c 0) fullShare (oT m c 0)) from rfl)) $$ Hp
  icases Hp with ⟨s0, o0⟩
  iapply (step_block m K c tM ![1, 0, 0] Gen.inb_S4x512x4096_S1x512x4096_1_0_0 ![0, 0, 0] Gen.inb_S2x512x2048_S1x512x2048_0_0_0 (outT c 1) 15 16 rfl 1 rfl rfl rfl fullShare.right (xT m (prv^[1] c)) (wS m c) rfl k0_pay5 rfl hz2) $$ [t1 Hw s0 o1 T15_1]
  · isplitr; · iexact HR
    isplitl [t1]; · iexact t1
    isplitl [Hw]; · iexact Hw
    isplitl [s0]; · iexact s0
    isplitl [o1]; · iexact o1
    isplitl [T15_1]; · iexact T15_1
    iexact Hr15_1
  iintro ⟨t1, Hw, C15⟩
  -- statements of part 8
  simp only [k0_part8_eq_skeleton, k0_part8_skel]
  simp only [semSignalWord, semWaitWord, Prog.lift, Prog.bind_op, Prog.bind_ret, Prog.pure_eq_ret, Prog.bind_assoc, wp_deviceId]
  iapply (step_wait m K c 16 17 rfl 0 NO rfl rfl (dl6 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩) (dst := outB c 0) rfl) $$ [HO C16 A16]
  · isplitr; · iexact HR
    isplitl [HO]; · iexact HO
    isplitl [C16]; · iexact C16
    iexact A16
  iintro ⟨HO, A16, #Hr16_1, Hp⟩
  ihave Hp := (Entails.of_eq (show payD m c 0 (16 : DmaSem sig).val = iprop(held c stg1 ∗ hold c (outB c 0) fullShare (oB m c 0)) from rfl)) $$ Hp
  icases Hp with ⟨s1, u0⟩
  simp only [k0_pay6_eq]
  iapply (step_block m K c bM ![1, 0, 0] Gen.inb_S4x512x4096_S1x512x4096_1_0_0 ![1, 0, 0] Gen.inb_S2x512x2048_S1x512x2048_1_0_0 (outB c 1) 16 17 rfl 1 rfl rfl rfl fullShare.right (xB m (nxt^[1] c)) (wS m c) rfl k0_pay5 rfl hz2) $$ [b1 Hw s1 u1 T16_1]
  · isplitr; · iexact HR
    isplitl [b1]; · iexact b1
    isplitl [Hw]; · iexact Hw
    isplitl [s1]; · iexact s1
    isplitl [u1]; · iexact u1
    isplitl [T16_1]; · iexact T16_1
    iexact Hr16_1
  iintro ⟨b1, Hw, C16⟩
  -- statements of part 9
  simp only [k0_part9_eq_skeleton, k0_part9_skel]
  simp only [semSignalWord, semWaitWord, Prog.lift, Prog.bind_op, Prog.bind_ret, Prog.pure_eq_ret, Prog.bind_assoc, wp_deviceId]
  iapply (step_wait m K c 7 8 rfl 0 N rfl rfl (dl6 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩) (dst := top2) rfl) $$ [HO C7 A7]
  · isplitr; · iexact HR
    isplitl [HO]; · iexact HO
    isplitl [C7]; · iexact C7
    iexact A7
  iintro ⟨HO, A7, #Hr7_1, Hp⟩
  ihave Hp := (Entails.of_eq (show payD m c 0 (7 : DmaSem sig).val = hold c top2 fullShare (xT m (prv^[2] c)) from rfl)) $$ Hp
  icases Hp with t2
  iapply (step_wait m K c 13 14 rfl 0 N rfl rfl (dl6 c) (List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩) (dst := bot2) rfl) $$ [HO C13 A13]
  · isplitr; · iexact HR
    isplitl [HO]; · iexact HO
    isplitl [C13]; · iexact C13
    iexact A13
  iintro ⟨HO, A13, #Hr13_1, Hp⟩
  ihave Hp := (Entails.of_eq (show payD m c 0 (13 : DmaSem sig).val = hold c bot2 fullShare (xB m (nxt^[2] c)) from rfl)) $$ Hp
  icases Hp with b2
  ihave t2 := (hold_halves c top2 (xT m (prv^[2] c))).1 $$ t2
  icases t2 with ⟨t2l, t2⟩
  ihave b2 := (hold_halves c bot2 (xB m (nxt^[2] c))).1 $$ b2
  icases b2 with ⟨b2l, b2⟩
  iapply (step_send m K c _ (nxt c) (dev7_eq c) top2 top3 5 8 6 9 rfl rfl rfl rfl rfl rfl rfl (xT m (prv^[2] c)) rfl (pay_recvT2 m c) (dl7 c)) $$ [HO t2l n3 T5 T8]
  · isplitr; · iexact HR
    isplitl [HO]; · iexact HO
    isplitl [t2l]; · iexact t2l
    isplitl [n3]; · iexact n3
    isplitl [T5]; · iexact T5
    iexact T8
  iintro ⟨HO, C5⟩
  -- statements of part 10
  simp only [k0_part10_eq_skeleton, k0_part10_skel]
  simp only [semSignalWord, semWaitWord, Prog.lift, Prog.bind_op, Prog.bind_ret, Prog.pure_eq_ret, Prog.bind_assoc, wp_deviceId]
  iapply (step_send m K c _ (prv c) (dev8_eq c) bot2 bot3 11 14 12 15 rfl rfl rfl rfl rfl rfl rfl (xB m (nxt^[2] c)) rfl (pay_recvB2 m c) (dl8 c)) $$ [HO b2l p3 T11 T14]
  · isplitr; · iexact HR
    isplitl [HO]; · iexact HO
    isplitl [b2l]; · iexact b2l
    isplitl [p3]; · iexact p3
    isplitl [T11]; · iexact T11
    iexact T14
  iintro ⟨HO, C11⟩
  iapply (step_wait m K c 15 16 rfl 1 NO rfl rfl (dl8 c) (List.forall_mem_cons.mpr ⟨⟨rfl, by dsimp only; decide⟩, List.forall_mem_cons.mpr ⟨⟨rfl, by dsimp only; decide⟩, fun _ h => absurd h List.not_mem_nil⟩⟩) (dst := outT c 1) rfl) $$ [HO C15 A15]
  · isplitr; · iexact HR
    isplitl [HO]; · iexact HO
    isplitl [C15]; · iexact C15
    iexact A15
  iintro ⟨HO, A15, #Hr15_2, Hp⟩
  ihave Hp := (Entails.of_eq (show payD m c 1 (15 : DmaSem sig).val = iprop(held c stg0 ∗ hold c (outT c 1) fullShare (oT m c 1)) from rfl)) $$ Hp
  icases Hp with ⟨s0, o1⟩
  -- statements of part 11
  simp only [k0_part11_eq_skeleton, k0_part11_skel]
  simp only [semSignalWord, semWaitWord, Prog.lift, Prog.bind_op, Prog.bind_ret, Prog.pure_eq_ret, Prog.bind_assoc, wp_deviceId]
  simp only [k0_pay7_eq]
  iapply (step_block m K c tM ![2, 0, 0] Gen.inb_S4x512x4096_S1x512x4096_2_0_0 ![0, 0, 0] Gen.inb_S2x512x2048_S1x512x2048_0_0_0 (outT c 2) 15 16 rfl 2 rfl rfl rfl fullShare.right (xT m (prv^[2] c)) (wS m c) rfl k0_pay5 rfl hz2) $$ [t2 Hw s0 o2 T15_2]
  · isplitr; · iexact HR
    isplitl [t2]; · iexact t2
    isplitl [Hw]; · iexact Hw
    isplitl [s0]; · iexact s0
    isplitl [o2]; · iexact o2
    isplitl [T15_2]; · iexact T15_2
    iexact Hr15_2
  iintro ⟨t2, Hw, C15⟩
  iapply (step_wait m K c 16 17 rfl 1 NO rfl rfl (dl8 c) (List.forall_mem_cons.mpr ⟨⟨rfl, by dsimp only; decide⟩, List.forall_mem_cons.mpr ⟨⟨rfl, by dsimp only; decide⟩, fun _ h => absurd h List.not_mem_nil⟩⟩) (dst := outB c 1) rfl) $$ [HO C16 A16]
  · isplitr; · iexact HR
    isplitl [HO]; · iexact HO
    isplitl [C16]; · iexact C16
    iexact A16
  iintro ⟨HO, A16, #Hr16_2, Hp⟩
  ihave Hp := (Entails.of_eq (show payD m c 1 (16 : DmaSem sig).val = iprop(held c stg1 ∗ hold c (outB c 1) fullShare (oB m c 1)) from rfl)) $$ Hp
  icases Hp with ⟨s1, u1⟩
  -- statements of part 12
  simp only [k0_part12_eq_skeleton, k0_part12_skel]
  simp only [semSignalWord, semWaitWord, Prog.lift, Prog.bind_op, Prog.bind_ret, Prog.pure_eq_ret, Prog.bind_assoc, wp_deviceId]
  simp only [k0_pay8_eq]
  iapply (step_block m K c bM ![2, 0, 0] Gen.inb_S4x512x4096_S1x512x4096_2_0_0 ![1, 0, 0] Gen.inb_S2x512x2048_S1x512x2048_1_0_0 (outB c 2) 16 17 rfl 2 rfl rfl rfl fullShare.right (xB m (nxt^[2] c)) (wS m c) rfl k0_pay5 rfl hz2) $$ [b2 Hw s1 u2 T16_2]
  · isplitr; · iexact HR
    isplitl [b2]; · iexact b2
    isplitl [Hw]; · iexact Hw
    isplitl [s1]; · iexact s1
    isplitl [u2]; · iexact u2
    isplitl [T16_2]; · iexact T16_2
    iexact Hr16_2
  iintro ⟨b2, Hw, C16⟩
  iapply (step_wait m K c 8 9 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := top3) rfl) $$ [HO C8 A8]
  · isplitr; · iexact HR
    isplitl [HO]; · iexact HO
    isplitl [C8]; · iexact C8
    iexact A8
  iintro ⟨HO, A8, #Hr8_1, Hp⟩
  ihave Hp := (Entails.of_eq (show payD m c 0 (8 : DmaSem sig).val = hold c top3 fullShare (xT m (prv^[3] c)) from rfl)) $$ Hp
  icases Hp with t3
  iapply (step_wait m K c 14 15 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := bot3) rfl) $$ [HO C14 A14]
  · isplitr; · iexact HR
    isplitl [HO]; · iexact HO
    isplitl [C14]; · iexact C14
    iexact A14
  iintro ⟨HO, A14, #Hr14_1, Hp⟩
  ihave Hp := (Entails.of_eq (show payD m c 0 (14 : DmaSem sig).val = hold c bot3 fullShare (xB m (nxt^[3] c)) from rfl)) $$ Hp
  icases Hp with b3
  -- statements of part 13
  simp only [k0_part13_eq_skeleton, k0_part13_skel]
  simp only [semSignalWord, semWaitWord, Prog.lift, Prog.bind_op, Prog.bind_ret, Prog.pure_eq_ret, Prog.bind_assoc, wp_deviceId]
  iapply (step_wait m K c 15 16 rfl 2 NO rfl rfl (dl8 c) (List.forall_mem_cons.mpr ⟨⟨rfl, by dsimp only; decide⟩, List.forall_mem_cons.mpr ⟨⟨rfl, by dsimp only; decide⟩, fun _ h => absurd h List.not_mem_nil⟩⟩) (dst := outT c 2) rfl) $$ [HO C15 A15]
  · isplitr; · iexact HR
    isplitl [HO]; · iexact HO
    isplitl [C15]; · iexact C15
    iexact A15
  iintro ⟨HO, A15, #Hr15_3, Hp⟩
  ihave Hp := (Entails.of_eq (show payD m c 2 (15 : DmaSem sig).val = iprop(held c stg0 ∗ hold c (outT c 2) fullShare (oT m c 2)) from rfl)) $$ Hp
  icases Hp with ⟨s0, o2⟩
  simp only [k0_pay9_eq]
  iapply (step_block m K c tM ![3, 0, 0] Gen.inb_S4x512x4096_S1x512x4096_3_0_0 ![0, 0, 0] Gen.inb_S2x512x2048_S1x512x2048_0_0_0 (outT c 3) 15 16 rfl 3 rfl rfl rfl fullShare (xT m (prv^[3] c)) (wS m c) rfl k0_pay5 rfl hz2) $$ [t3 Hw s0 o3 T15_3]
  · isplitr; · iexact HR
    isplitl [t3]; · iexact t3
    isplitl [Hw]; · iexact Hw
    isplitl [s0]; · iexact s0
    isplitl [o3]; · iexact o3
    isplitl [T15_3]; · iexact T15_3
    iexact Hr15_3
  iintro ⟨t3, Hw, C15⟩
  -- statements of part 14
  simp only [k0_part14_eq_skeleton, k0_part14_skel]
  simp only [semSignalWord, semWaitWord, Prog.lift, Prog.bind_op, Prog.bind_ret, Prog.pure_eq_ret, Prog.bind_assoc, wp_deviceId]
  iapply (step_wait m K c 16 17 rfl 2 NO rfl rfl (dl8 c) (List.forall_mem_cons.mpr ⟨⟨rfl, by dsimp only; decide⟩, List.forall_mem_cons.mpr ⟨⟨rfl, by dsimp only; decide⟩, fun _ h => absurd h List.not_mem_nil⟩⟩) (dst := outB c 2) rfl) $$ [HO C16 A16]
  · isplitr; · iexact HR
    isplitl [HO]; · iexact HO
    isplitl [C16]; · iexact C16
    iexact A16
  iintro ⟨HO, A16, #Hr16_3, Hp⟩
  ihave Hp := (Entails.of_eq (show payD m c 2 (16 : DmaSem sig).val = iprop(held c stg1 ∗ hold c (outB c 2) fullShare (oB m c 2)) from rfl)) $$ Hp
  icases Hp with ⟨s1, u2⟩
  simp only [k0_pay10_eq]
  iapply (step_block m K c bM ![3, 0, 0] Gen.inb_S4x512x4096_S1x512x4096_3_0_0 ![1, 0, 0] Gen.inb_S2x512x2048_S1x512x2048_1_0_0 (outB c 3) 16 17 rfl 3 rfl rfl rfl fullShare (xB m (nxt^[3] c)) (wS m c) rfl k0_pay5 rfl hz2) $$ [b3 Hw s1 u3 T16_3]
  · isplitr; · iexact HR
    isplitl [b3]; · iexact b3
    isplitl [Hw]; · iexact Hw
    isplitl [s1]; · iexact s1
    isplitl [u3]; · iexact u3
    isplitl [T16_3]; · iexact T16_3
    iexact Hr16_3
  iintro ⟨b3, Hw, C16⟩
  -- statements of part 15
  simp only [k0_part15_eq_skeleton, k0_part15_skel]
  simp only [semSignalWord, semWaitWord, Prog.lift, Prog.bind_op, Prog.bind_ret, Prog.pure_eq_ret, Prog.bind_assoc, wp_deviceId]
  iapply (step_wait m K c 15 16 rfl 3 NO rfl rfl (dl8 c) (List.forall_mem_cons.mpr ⟨⟨rfl, by dsimp only; decide⟩, List.forall_mem_cons.mpr ⟨⟨rfl, by dsimp only; decide⟩, fun _ h => absurd h List.not_mem_nil⟩⟩) (dst := outT c 3) rfl) $$ [HO C15 A15]
  · isplitr; · iexact HR
    isplitl [HO]; · iexact HO
    isplitl [C15]; · iexact C15
    iexact A15
  iintro ⟨HO, A15, #Hr15_4, Hp⟩
  ihave Hp := (Entails.of_eq (show payD m c 3 (15 : DmaSem sig).val = iprop(held c stg0 ∗ hold c (outT c 3) fullShare (oT m c 3)) from rfl)) $$ Hp
  icases Hp with ⟨s0, o3⟩
  iapply (step_wait m K c 16 17 rfl 3 NO rfl rfl (dl8 c) (List.forall_mem_cons.mpr ⟨⟨rfl, by dsimp only; decide⟩, List.forall_mem_cons.mpr ⟨⟨rfl, by dsimp only; decide⟩, fun _ h => absurd h List.not_mem_nil⟩⟩) (dst := outB c 3) rfl) $$ [HO C16 A16]
  · isplitr; · iexact HR
    isplitl [HO]; · iexact HO
    isplitl [C16]; · iexact C16
    iexact A16
  iintro ⟨HO, A16, #Hr16_4, Hp⟩
  ihave Hp := (Entails.of_eq (show payD m c 3 (16 : DmaSem sig).val = iprop(held c stg1 ∗ hold c (outB c 3) fullShare (oB m c 3)) from rfl)) $$ Hp
  icases Hp with ⟨s1, u3⟩
  iapply (step_wait m K c 3 4 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := top0) rfl) $$ [HO C3 A3]
  · isplitr; · iexact HR
    isplitl [HO]; · iexact HO
    isplitl [C3]; · iexact C3
    iexact A3
  iintro ⟨HO, A3, #Hr3_1, Hp⟩
  ihave Hp := (Entails.of_eq (show payD m c 0 (3 : DmaSem sig).val = hold c top0 fullShare.left (xT m (prv^[0] c)) from rfl)) $$ Hp
  icases Hp with t0l
  iapply (step_wait m K c 9 10 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := bot0) rfl) $$ [HO C9 A9]
  · isplitr; · iexact HR
    isplitl [HO]; · iexact HO
    isplitl [C9]; · iexact C9
    iexact A9
  iintro ⟨HO, A9, #Hr9_1, Hp⟩
  ihave Hp := (Entails.of_eq (show payD m c 0 (9 : DmaSem sig).val = hold c bot0 fullShare.left (xB m (nxt^[0] c)) from rfl)) $$ Hp
  icases Hp with b0l
  -- statements of part 16
  simp only [k0_part16_eq_skeleton, k0_part16_skel]
  simp only [semSignalWord, semWaitWord, Prog.lift, Prog.bind_op, Prog.bind_ret, Prog.pure_eq_ret, Prog.bind_assoc, wp_deviceId]
  iapply (step_wait m K c 4 5 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := top1) rfl) $$ [HO C4 A4]
  · isplitr; · iexact HR
    isplitl [HO]; · iexact HO
    isplitl [C4]; · iexact C4
    iexact A4
  iintro ⟨HO, A4, #Hr4_1, Hp⟩
  ihave Hp := (Entails.of_eq (show payD m c 0 (4 : DmaSem sig).val = hold c top1 fullShare.left (xT m (prv^[1] c)) from rfl)) $$ Hp
  icases Hp with t1l
  iapply (step_wait m K c 10 11 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := bot1) rfl) $$ [HO C10 A10]
  · isplitr; · iexact HR
    isplitl [HO]; · iexact HO
    isplitl [C10]; · iexact C10
    iexact A10
  iintro ⟨HO, A10, #Hr10_1, Hp⟩
  ihave Hp := (Entails.of_eq (show payD m c 0 (10 : DmaSem sig).val = hold c bot1 fullShare.left (xB m (nxt^[1] c)) from rfl)) $$ Hp
  icases Hp with b1l
  iapply (step_wait m K c 5 6 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := top2) rfl) $$ [HO C5 A5]
  · isplitr; · iexact HR
    isplitl [HO]; · iexact HO
    isplitl [C5]; · iexact C5
    iexact A5
  iintro ⟨HO, A5, #Hr5_1, Hp⟩
  ihave Hp := (Entails.of_eq (show payD m c 0 (5 : DmaSem sig).val = hold c top2 fullShare.left (xT m (prv^[2] c)) from rfl)) $$ Hp
  icases Hp with t2l
  iapply (step_wait m K c 11 12 rfl 0 N rfl rfl (dl8 c) (List.forall_mem_cons.mpr ⟨⟨rfl, by dsimp only; decide⟩, List.forall_mem_cons.mpr ⟨⟨rfl, by dsimp only; decide⟩, fun _ h => absurd h List.not_mem_nil⟩⟩) (dst := bot2) rfl) $$ [HO C11 A11]
  · isplitr; · iexact HR
    isplitl [HO]; · iexact HO
    isplitl [C11]; · iexact C11
    iexact A11
  iintro ⟨HO, A11, #Hr11_1, Hp⟩
  ihave Hp := (Entails.of_eq (show payD m c 0 (11 : DmaSem sig).val = hold c bot2 fullShare.left (xB m (nxt^[2] c)) from rfl)) $$ Hp
  icases Hp with b2l
  iapply (step_signal m K c _ (prv c) (dev9_eq c) 1 true 1 rfl (dl9 c) rfl) $$ [HO Tb2p]
  · isplitr; · iexact HR
    isplitl [HO]; · iexact HO
    isplitl [Tb2p]; · iexact Tb2p
    iapply pay_bar2; iempintro
  iintro HO
  iapply (step_signal m K c _ (nxt c) (dev10_eq c) 1 false 1 rfl (dl10 c) rfl) $$ [HO Tb2n]
  · isplitr; · iexact HR
    isplitl [HO]; · iexact HO
    isplitl [Tb2n]; · iexact Tb2n
    iapply pay_bar2; iempintro
  iintro HO
  iapply (step_barrier m K c 1 1 rfl (dl10 c) (fun _ h => absurd h List.not_mem_nil) rfl) $$ [HO Cb2 Ab2]
  · isplitr; · iexact HR
    isplitl [HO]; · iexact HO
    isplitl [Cb2]; · iexact Cb2
    iexact Ab2
  iintro ⟨HO, Ab2, -, -⟩
  ihave t0 := (hold_halves c top0 (xT m (prv^[0] c))).2 $$ [t0l t0]
  · isplitl [t0l]; · iexact t0l
    iexact t0
  ihave t1 := (hold_halves c top1 (xT m (prv^[1] c))).2 $$ [t1l t1]
  · isplitl [t1l]; · iexact t1l
    iexact t1
  ihave t2 := (hold_halves c top2 (xT m (prv^[2] c))).2 $$ [t2l t2]
  · isplitl [t2l]; · iexact t2l
    iexact t2
  ihave b0 := (hold_halves c bot0 (xB m (nxt^[0] c))).2 $$ [b0l b0]
  · isplitl [b0l]; · iexact b0l
    iexact b0
  ihave b1 := (hold_halves c bot1 (xB m (nxt^[1] c))).2 $$ [b1l b1]
  · isplitl [b1l]; · iexact b1l
    iexact b1
  ihave b2 := (hold_halves c bot2 (xB m (nxt^[2] c))).2 $$ [b2l b2]
  · isplitl [b2l]; · iexact b2l
    iexact b2
  rw [wp_ret]
  imod (close_one m K c 0 (.reg 0) rfl 1 (by decide)) $$ [Ab] with ZAb
  · isplitr; · iexact HR
    iexact Ab
  imod (close_one m K c 1 (.reg 1) rfl 1 (by decide)) $$ [Ab2] with ZAb2
  · isplitr; · iexact HR
    iexact Ab2
  imod (close_one m K c 2 (.dma 1) rfl 1 (by decide)) $$ [A1] with ZA1
  · isplitr; · iexact HR
    iexact A1
  imod (close_one m K c 3 (.dma 2) rfl 1 (by decide)) $$ [A2] with ZA2
  · isplitr; · iexact HR
    iexact A2
  imod (close_one m K c 4 (.dma 3) rfl 1 (by decide)) $$ [A3] with ZA3
  · isplitr; · iexact HR
    iexact A3
  imod (close_one m K c 5 (.dma 4) rfl 1 (by decide)) $$ [A4] with ZA4
  · isplitr; · iexact HR
    iexact A4
  imod (close_one m K c 6 (.dma 5) rfl 1 (by decide)) $$ [A5] with ZA5
  · isplitr; · iexact HR
    iexact A5
  imod (close_one m K c 7 (.dma 6) rfl 1 (by decide)) $$ [A6] with ZA6
  · isplitr; · iexact HR
    iexact A6
  imod (close_one m K c 8 (.dma 7) rfl 1 (by decide)) $$ [A7] with ZA7
  · isplitr; · iexact HR
    iexact A7
  imod (close_one m K c 9 (.dma 8) rfl 1 (by decide)) $$ [A8] with ZA8
  · isplitr; · iexact HR
    iexact A8
  imod (close_one m K c 10 (.dma 9) rfl 1 (by decide)) $$ [A9] with ZA9
  · isplitr; · iexact HR
    iexact A9
  imod (close_one m K c 11 (.dma 10) rfl 1 (by decide)) $$ [A10] with ZA10
  · isplitr; · iexact HR
    iexact A10
  imod (close_one m K c 12 (.dma 11) rfl 1 (by decide)) $$ [A11] with ZA11
  · isplitr; · iexact HR
    iexact A11
  imod (close_one m K c 13 (.dma 12) rfl 1 (by decide)) $$ [A12] with ZA12
  · isplitr; · iexact HR
    iexact A12
  imod (close_one m K c 14 (.dma 13) rfl 1 (by decide)) $$ [A13] with ZA13
  · isplitr; · iexact HR
    iexact A13
  imod (close_one m K c 15 (.dma 14) rfl 1 (by decide)) $$ [A14] with ZA14
  · isplitr; · iexact HR
    iexact A14
  imod (close_one m K c 16 (.dma 15) rfl 4 (by decide)) $$ [A15] with ZA15
  · isplitr; · iexact HR
    iexact A15
  imod (close_one m K c 17 (.dma 16) rfl 4 (by decide)) $$ [A16] with ZA16
  · isplitr; · iexact HR
    iexact A16
  imodintro
  iapply Hk
  unfold bodyEnd slotsAll outsDone closedAll stagedW
  isplitl [t0 t1 t2 t3 b0 b1 b2 b3 s0 s1]
  · isplitl [t0 t1 t2 t3]
    · isplitl [t0]; · iapply (hold_held c top0); iexact t0
      isplitl [t1]; · iapply (hold_held c top1); iexact t1
      isplitl [t2]; · iapply (hold_held c top2); iexact t2
      iapply (hold_held c top3); iexact t3
    isplitl [b0 b1 b2 b3]
    · isplitl [b0]; · iapply (hold_held c bot0); iexact b0
      isplitl [b1]; · iapply (hold_held c bot1); iexact b1
      isplitl [b2]; · iapply (hold_held c bot2); iexact b2
      iapply (hold_held c bot3); iexact b3
    isplitl [s0]; · iexact s0
    iexact s1
  isplitl [o0 o1 o2 o3 u0 u1 u2 u3]
  · isplitl [o0 o1 o2 o3]
    · isplitl [o0]; · iexact o0
      isplitl [o1]; · iexact o1
      isplitl [o2]; · iexact o2
      iexact o3
    isplitl [u0]; · iexact u0
    isplitl [u1]; · iexact u1
    isplitl [u2]; · iexact u2
    iexact u3
  isplitl [ZAb ZAb2 ZA1 ZA2 ZA3 ZA4 ZA5 ZA6 ZA7 ZA8 ZA9 ZA10 ZA11 ZA12 ZA13 ZA14 ZA15 ZA16]
  · isplitl [ZAb]; · iexact ZAb
    isplitl [ZAb2]; · iexact ZAb2
    isplitl [ZA1]; · iexact ZA1
    isplitl [ZA2]; · iexact ZA2
    isplitl [ZA3]; · iexact ZA3
    isplitl [ZA4]; · iexact ZA4
    isplitl [ZA5]; · iexact ZA5
    isplitl [ZA6]; · iexact ZA6
    isplitl [ZA7]; · iexact ZA7
    isplitl [ZA8]; · iexact ZA8
    isplitl [ZA9]; · iexact ZA9
    isplitl [ZA10]; · iexact ZA10
    isplitl [ZA11]; · iexact ZA11
    isplitl [ZA12]; · iexact ZA12
    isplitl [ZA13]; · iexact ZA13
    isplitl [ZA14]; · iexact ZA14
    isplitl [ZA15]; · iexact ZA15
    iexact ZA16
  isplitl [HO]; · iexact HO
  iexact Hw

end Cert.KernelIdeal.Run

end
-- ==== Proof.KernelIdealRun.Mem.lean ====
/-
# Buffers cut into the pieces the body works with, and joined back

The two buffers of four slots, the buffer of two staging slots and the result's eight blocks: each is a family of
element sets, pairwise disjoint because the rectangles lie apart on one axis.
-/
module

public import proofs.«01_k».proof.Proof.KernelIdealRun.Body

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A separating product over two. -/
theorem big2 (Φ : Fin 2 → sProp 𝕄) : bigSep Finset.univ Φ = iprop(Φ 0 ∗ Φ 1) := bigSep_univ_eq_bigSepL [0, 1] (by decide) (by decide) Φ
/-- Over four. -/
theorem big4 (Φ : Fin 4 → sProp 𝕄) : bigSep Finset.univ Φ = iprop(Φ 0 ∗ Φ 1 ∗ Φ 2 ∗ Φ 3) := bigSep_univ_eq_bigSepL [0, 1, 2, 3] (by decide) (by decide) Φ
/-- Over the two halves. -/
theorem bigB (Φ : Bool → sProp 𝕄) : bigSep Finset.univ Φ = iprop(Φ true ∗ Φ false) := bigSep_univ_eq_bigSepL [true, false] (by decide) (by decide) Φ

/-! ## A buffer of four slots -/

/-- Where slot `b` begins. -/
abbrev slotO (b : ℕ) : Fin 3 → ℕ := ![b, 0, 0]
/-- A slot lies in a buffer of four. -/
theorem slotO_inb4 (b : Fin 4) : ∀ a, slotO b.val a + S1x512x4096.size a ≤ S4x512x4096.size a := by revert b; decide
/-- A slot lies in the staging buffer. -/
theorem slotO_inb2 (b : Fin 2) : ∀ a, slotO b.val a + S1x512x2048.size a ≤ S2x512x2048.size a := by revert b; decide

/-- The elements of slot `b`. -/
def I4 (c : Dev nD) (M : Memref sig .tc .vmem S4x512x4096 .bf16) (b : Fin 4) : Finset (Idx (M.view.loc (c : Thread nD τ))) :=
  (slot4 M (slotO b.val) (slotO_inb4 b)).view.set

/-- Two slots share no element. -/
theorem I4_disj (c : Dev nD) (M : Memref sig .tc .vmem S4x512x4096 .bf16) (b b' : Fin 4) (h : b ≠ b') : Disjoint (I4 c M b) (I4 c M b') := by
  unfold I4
  rw [show (slot4 M (slotO b.val) (slotO_inb4 b)).view.set = (M.view.slice (Rect.unit (s := S4x512x4096) (slotO b.val) S1x512x4096.size (slotO_inb4 b))).set from View.set_reshape _ _,
    show (slot4 M (slotO b'.val) (slotO_inb4 b')).view.set = (M.view.slice (Rect.unit (s := S4x512x4096) (slotO b'.val) S1x512x4096.size (slotO_inb4 b'))).set from View.set_reshape _ _]
  refine View.disjoint_slice_of_sep M.view _ _ (0 : Fin 3) rfl rfl ?_
  have hb : b.val ≠ b'.val := fun e => h (Fin.ext e)
  show b.val + 1 ≤ b'.val ∨ b'.val + 1 ≤ b.val
  omega

/-- What the slots leave of their buffer. -/
def rest4 (c : Dev nD) (M : Memref sig .tc .vmem S4x512x4096 .bf16) : sProp 𝕄 :=
  iprop(∃ f : Buf (Elt F) (M.view.loc (c : Thread nD τ)), M.view.loc (c : Thread nD τ) ↦[Ring.restOf (I4 c M)]{fullShare} f)

/-- The four slots of a buffer, whatever they hold. -/
def four (c : Dev nD) (M : Memref sig .tc .vmem S4x512x4096 .bf16) : sProp 𝕄 :=
  iprop(held c (slot4 M (slotO 0) (slotO_inb4 0)) ∗ held c (slot4 M (slotO 1) (slotO_inb4 1)) ∗ held c (slot4 M (slotO 2) (slotO_inb4 2)) ∗ held c (slot4 M (slotO 3) (slotO_inb4 3)))

/-- The four slots, as a product over their numbers. -/
theorem four_big (c : Dev nD) (M : Memref sig .tc .vmem S4x512x4096 .bf16) :
    (bigSep Finset.univ (fun b : Fin 4 => iprop(∃ f : Buf (Elt F) (M.view.loc (c : Thread nD τ)), M.view.loc (c : Thread nD τ) ↦[I4 c M b]{fullShare} f)) : sProp 𝕄) = four c M := by
  rw [big4]; rfl

/-- A buffer of four is its slots and what they leave. -/
theorem split4 (c : Dev nD) (M : Memref sig .tc .vmem S4x512x4096 .bf16) :
    iprop(∃ f : Buf (Elt F) (M.view.loc (c : Thread nD τ)), M.view.loc (c : Thread nD τ) ↦{fullShare} f) ⊢ (iprop(four c M ∗ rest4 c M) : sProp 𝕄) := by
  rw [← four_big]; exact Ring.fam_split_ex (I4 c M) (I4_disj c M)
/-- And back. -/
theorem join4 (c : Dev nD) (M : Memref sig .tc .vmem S4x512x4096 .bf16) :
    (iprop(four c M ∗ rest4 c M) : sProp 𝕄) ⊢ iprop(∃ f : Buf (Elt F) (M.view.loc (c : Thread nD τ)), M.view.loc (c : Thread nD τ) ↦{fullShare} f) := by
  rw [← four_big]; exact Ring.fam_join (I4 c M) (I4_disj c M) (fun _ => Classical.arbitrary _)

/-! ## The buffer of two staging slots -/

def I2 (c : Dev nD) (b : Fin 2) : Finset (Idx (sM.view.loc (c : Thread nD τ))) := (slot2 (slotO b.val) (slotO_inb2 b)).view.set

/-- Two staging slots share no element. -/
theorem I2_disj (c : Dev nD) (b b' : Fin 2) (h : b ≠ b') : Disjoint (I2 c b) (I2 c b') := by
  unfold I2
  rw [show (slot2 (slotO b.val) (slotO_inb2 b)).view.set = (sM.view.slice (Rect.unit (s := S2x512x2048) (slotO b.val) S1x512x2048.size (slotO_inb2 b))).set from View.set_reshape _ _,
    show (slot2 (slotO b'.val) (slotO_inb2 b')).view.set = (sM.view.slice (Rect.unit (s := S2x512x2048) (slotO b'.val) S1x512x2048.size (slotO_inb2 b'))).set from View.set_reshape _ _]
  refine View.disjoint_slice_of_sep sM.view _ _ (0 : Fin 3) rfl rfl ?_
  have hb : b.val ≠ b'.val := fun e => h (Fin.ext e)
  show b.val + 1 ≤ b'.val ∨ b'.val + 1 ≤ b.val
  omega

def rest2 (c : Dev nD) : sProp 𝕄 :=
  iprop(∃ f : Buf (Elt F) (sM.view.loc (c : Thread nD τ)), sM.view.loc (c : Thread nD τ) ↦[Ring.restOf (I2 c)]{fullShare} f)

/-- The two staging slots, as a product over their numbers. -/
theorem two_big (c : Dev nD) :
    (bigSep Finset.univ (fun b : Fin 2 => iprop(∃ f : Buf (Elt F) (sM.view.loc (c : Thread nD τ)), sM.view.loc (c : Thread nD τ) ↦[I2 c b]{fullShare} f)) : sProp 𝕄)
      = iprop(held c stg0 ∗ held c stg1) := by
  rw [big2]; rfl

/-- The staging buffer is its slots and what they leave. -/
theorem split2 (c : Dev nD) :
    iprop(∃ f : Buf (Elt F) (sM.view.loc (c : Thread nD τ)), sM.view.loc (c : Thread nD τ) ↦{fullShare} f) ⊢ (iprop((held c stg0 ∗ held c stg1) ∗ rest2 c) : sProp 𝕄) := by
  rw [← two_big]; exact Ring.fam_split_ex (I2 c) (I2_disj c)
/-- And back. -/
theorem join2 (c : Dev nD) :
    (iprop((held c stg0 ∗ held c stg1) ∗ rest2 c) : sProp 𝕄) ⊢ iprop(∃ f : Buf (Elt F) (sM.view.loc (c : Thread nD τ)), sM.view.loc (c : Thread nD τ) ↦{fullShare} f) := by
  rw [← two_big]; exact Ring.fam_join (I2 c) (I2_disj c) (fun _ => Classical.arbitrary _)

/-- What the slots leave of the three buffers. -/
def rests (c : Dev nD) : sProp 𝕄 := iprop(rest4 c tM ∗ rest4 c bM ∗ rest2 c)

/-- The kernel's three buffers are its slots and what those leave. -/
theorem scratch_split (c : Dev nD) : (Pipeline.scopedRest cfg0.spec c : sProp 𝕄) ⊢ iprop(slotsAll c ∗ rests c) := by
  rw [scopedRest0_eq]
  unfold rests slotsAll
  iintro ⟨Ht, Hb, Hs⟩
  ihave Ht := (split4 (F := F) c tM) $$ Ht
  ihave Hb := (split4 (F := F) c bM) $$ Hb
  ihave Hs := (split2 (F := F) c) $$ Hs
  icases Ht with ⟨Ht, Hrt⟩
  icases Hb with ⟨Hb, Hrb⟩
  icases Hs with ⟨Hs, Hrs⟩
  isplitl [Ht Hb Hs]
  · isplitl [Ht]; · iapply (Entails.of_eq (show (four c tM : sProp 𝕄) = iprop(held c top0 ∗ held c top1 ∗ held c top2 ∗ held c top3) from rfl)); iexact Ht
    isplitl [Hb]; · iapply (Entails.of_eq (show (four c bM : sProp 𝕄) = iprop(held c bot0 ∗ held c bot1 ∗ held c bot2 ∗ held c bot3) from rfl)); iexact Hb
    iexact Hs
  isplitl [Hrt]; · iexact Hrt
  isplitl [Hrb]; · iexact Hrb
  iexact Hrs

/-- The slots and what they leave are the three buffers. -/
theorem scratch_join (c : Dev nD) : iprop(slotsAll c ∗ rests c) ⊢ (Pipeline.scopedRest cfg0.spec c : sProp 𝕄) := by
  rw [scopedRest0_eq]
  unfold rests slotsAll
  iintro ⟨⟨Ht, Hb, Hs⟩, Hrt, Hrb, Hrs⟩
  ihave Ht := (Entails.of_eq (show (iprop(held c top0 ∗ held c top1 ∗ held c top2 ∗ held c top3) : sProp 𝕄) = four c tM from rfl)) $$ Ht
  ihave Hb := (Entails.of_eq (show (iprop(held c bot0 ∗ held c bot1 ∗ held c bot2 ∗ held c bot3) : sProp 𝕄) = four c bM from rfl)) $$ Hb
  ihave Ht := (join4 (F := F) c tM) $$ [Ht Hrt]
  · isplitl [Ht] <;> iassumption
  ihave Hb := (join4 (F := F) c bM) $$ [Hb Hrb]
  · isplitl [Hb] <;> iassumption
  ihave Hs := (join2 (F := F) c) $$ [Hs Hrs]
  · isplitl [Hs] <;> iassumption
  isplitl [Ht]; · iexact Ht
  isplitl [Hb]; · iexact Hb
  iexact Hs

/-! ## The result's blocks -/

/-- Block `r` of the first (second) halves. -/
def outP (c : Dev nD) (p : Bool × Fin 4) : Memref sig .tc .hbm S512x2048 .f32 := match p.1 with | true => outT c p.2 | false => outB c p.2
/-- The row it begins at. -/
def rowP (c : Dev nD) (p : Bool × Fin 4) : ℕ := match p.1 with | true => k0_off1 c (BitVec.ofNat 32 p.2.val) 0 | false => k0_off2 c (BitVec.ofNat 32 p.2.val) 0

/-- Two blocks of rows lie apart. -/
theorem rowP_sep : ∀ (c : Dev nD) (p p' : Bool × Fin 4), p ≠ p' → rowP c p + 512 ≤ rowP c p' ∨ rowP c p' + 512 ≤ rowP c p := by decide +kernel

def IO (c : Dev nD) (p : Bool × Fin 4) : Finset (Idx (oM.view.loc (c : Thread nD τ))) :=
  match p.1 with | true => (outT c p.2).view.set | false => (outB c p.2).view.set

/-- So two blocks of the result share no element. -/
theorem IO_disj (c : Dev nD) (p p' : Bool × Fin 4) (h : p ≠ p') : Disjoint (IO c p) (IO c p') := by
  have hs := rowP_sep c p p' h
  obtain ⟨_ | _, r⟩ := p <;> obtain ⟨_ | _, r'⟩ := p' <;> exact View.disjoint_slice_of_sep oM.view _ _ (0 : Fin 2) rfl rfl hs

/-- The result, whatever it holds, is its eight blocks. -/
theorem out_split (c : Dev nD) (f : Buf (Elt F) ((c : Thread nD τ).loc main_v1)) : ((((c : Thread nD τ).loc main_v1) ↦{fullShare} f) : sProp 𝕄) ⊢ outsAny c := by
  iintro H
  ihave H := (Ring.fam_split (ℓ := ((c : Thread nD τ).loc main_v1)) (IO c) (IO_disj c) (q := fullShare) f) $$ H
  rw [bigSep_univ_prod, bigB, big4, big4]
  icases H with ⟨⟨⟨t0, t1, t2, t3⟩, u0, u1, u2, u3⟩, -⟩
  unfold outsAny held
  isplitl [t0]; · iexists f; iexact t0
  isplitl [t1]; · iexists f; iexact t1
  isplitl [t2]; · iexists f; iexact t2
  isplitl [t3]; · iexists f; iexact t3
  isplitl [u0]; · iexists f; iexact u0
  isplitl [u1]; · iexists f; iexact u1
  isplitl [u2]; · iexists f; iexact u2
  iexists f; iexact u3

/-! ## The rows of `x` -/

/-- The array of rows is the part the loads borrow, and the half share kept aside. -/
theorem rows_split (c : Dev nD) :
    ((((c : Thread nD τ).loc main_arg0) ↦{fullShare} m ((c : Thread nD τ).loc main_arg0)) : sProp 𝕄)
      ⊢ iprop(rowsX m c ∗ (((c : Thread nD τ).loc main_arg0) ↦{fullShare.right} m ((c : Thread nD τ).loc main_arg0))) := by
  iintro H
  ihave H := (pointsTo_share (PosShare.mem_left_op_right fullShare)).1 $$ H
  icases H with ⟨Hl, Hr⟩
  ihave Hl := (pointsTo_share (PosShare.mem_left_op_right fullShare.left)).1 $$ Hl
  icases Hl with ⟨H1, H2⟩
  ihave H1 := (pointsTo_split_subset (ℓ := xTop.view.loc (c : Thread nD τ)) (I := xTop.view.set) (Finset.subset_univ _)).1 $$ H1
  ihave H2 := (pointsTo_split_subset (ℓ := xBot.view.loc (c : Thread nD τ)) (I := xBot.view.set) (Finset.subset_univ _)).1 $$ H2
  icases H1 with ⟨H1, -⟩
  icases H2 with ⟨H2, -⟩
  unfold rowsX
  isplitl [H1 H2]
  · isplitl [H1]; · iexact H1
    iexact H2
  iexact Hr

/-! ## Reading the memory -/

/-- The memory agrees with what is held. -/
theorem read_hold (c : Dev nD) {sp : Space} {s : Shape} {e : EltTy} (M : Memref sig .tc sp s e) (q : PosShare TreeShare) (X : s.Idx → Elt F e)
    (st : Phys nD τ sig (Elt F)) :
    iprop(SI st ∗ hold c M q X) ⊢ (iprop(⌜M.view.read (Elt F) (st.mem.mem (M.view.loc (c : Thread nD τ))) = X⌝) : sProp 𝕄) := by
  unfold hold
  refine BIBase.Entails.trans SI_pointsTo_agree ?_
  iintro %h
  ipureintro
  exact (View.read_congr h).trans (View.read_rep _ _)

/-- The same, for the two taken together. -/
instance combine_hold (c : Dev nD) {sp : Space} {s : Shape} {e : EltTy} (M : Memref sig .tc sp s e) (q : PosShare TreeShare) (X : s.Idx → Elt F e)
    (st : Phys nD τ sig (Elt F)) :
    CombineSepGives (SI st : sProp 𝕄) (hold c M q X) iprop(⌜M.view.read (Elt F) (st.mem.mem (M.view.loc (c : Thread nD τ))) = X⌝) where
  combine_sep_gives := BIBase.Entails.trans (read_hold c M q X st) Laws.persistently_pure.2

end Cert.KernelIdeal.Run

end
-- ==== Proof.KernelIdealRun.Launch.lean ====
/-
# The launch: what every device is dealt, and the run of the whole program

The ghost state of the ring's cells is minted once and dealt so that every device starts with the positions at its own
cells and the rights to pay the duties it pays; the cells' invariants are allocated from the counters at zero; the launch
credit is what the others owe. The program's run then ends with every device's eight blocks at their contents.
-/
module

public import proofs.«01_k».proof.Proof.KernelIdealRun.Mem
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What the invariants know, the levels aside. -/
def recs (K : Dev nD × Fin 18 → ℕ) : sProp 𝕄 :=
  bigSep Finset.univ (fun p => iprop(cellInv ER (Rd m) (K p) (kcell p) ∗ reached ER (kcell p) 0))

instance recs_persistent (K : Dev nD × Fin 18 → ℕ) : BI.Persistent (recs m K) := by unfold recs; infer_instance

/-- What the global step leaves device `c`. -/
def G' (c : Dev nD) : sProp 𝕄 := iprop(∃ K, recs m K ∗ posAll c ∗ tokAll c)

/-- What device `c` brings to the body. -/
def startX (c : Dev nD) : sProp 𝕄 := iprop(G' m c ∗ levAts L lv ∗ crAll c ∗ outsAny c ∗ rowsX m c)

/-- Before the one point, and after it. -/
def Φ₀ (c : Dev nD) : sProp 𝕄 := iprop(startX m c ∗ slotsAll c ∗ rests c)
def Φ₁ (c : Dev nD) : sProp 𝕄 := iprop(slotsAll c ∗ rests c ∗ outsDone m c ∗ closedAll c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wS m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The kernel has one window. -/
theorem bigSep_W (Φ : Fin cfg0.W → sProp 𝕄) : bigSep Finset.univ Φ = iprop(Φ (0 : Fin 1)) := bigSep_W0 Φ

/-- To own a whole buffer at `X` is to hold it with contents equal to `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The body finds the staged columns in the window. -/
theorem before_0 (c : Dev nD) (d : (cfg0.win (0 : Fin 1)).block.Idx → Elt F (cfg0.win (0 : Fin 1)).elt) :
    (dats m ρ 0 c).before (0 : Fin 1) t0_0 d = wS m c := by
  unfold Dat.before; rw [if_pos (fetch0_0 t0_0)]; rfl

set_option maxRecDepth 4000 in
def pre' (c : Dev nD) : sProp 𝕄 :=
  iprop(Φ₀ m c ∗ (dats m ρ 0 c).owesAt () (t0_0 : Fin cfg0.N).castSucc
    ∗ (∃ d, ∃ f : Buf (Elt F) ((c : Thread nD τ).loc cc0_stg0_0), ⌜f = (dats m ρ 0 c).before (0 : Fin 1) t0_0 d⌝ ∗ ((c : Thread nD τ).loc cc0_stg0_0) ↦{fullShare} f))
set_option maxRecDepth 4000 in
def post' (c : Dev nD) : sProp 𝕄 :=
  iprop(Φ₁ m c ∗ (dats m ρ 0 c).owesAt () (t0_0 : Fin cfg0.N).succ
    ∗ (∃ f : Buf (Elt F) ((c : Thread nD τ).loc cc0_stg0_0), ⌜f = wS m c⌝ ∗ ((c : Thread nD τ).loc cc0_stg0_0) ↦{fullShare} f))

set_option maxRecDepth 4000 in
/-- The pipeline's one point on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole]
  show pre' m ρ c ⊢ wp frame (wpE (defs₀ (F := F)) 𝒱₀ c none) Set.univ
    (cc0_body (Memref.whole main_arg0) (Memref.isWhole_whole _) (Memref.whole cc0_stg0_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            cc0_scratch3 cc0_scratch4 cc0_scratch5 cc0_scratch6 cc0_scratch7 cc0_scratch8 cc0_scoped0) (fun _ => post' m ρ c)
  unfold pre' Φ₀ startX G' Dat.owesAt Pipeline.owesWithin
  rw [show (dats m ρ 0 c).owed (t0_0 : Fin cfg0.N).castSucc = O₀ c from rfl]
  iintro ⟨⟨⟨⟨%K, HR, Hp, Ht⟩, Hl, Hc, Ho, Hx⟩, Hs, Hr⟩, ⟨%W, -, HO⟩, ⟨%d, %f, %hf, Hw⟩⟩
  rw [before_0 m ρ c d] at hf
  subst hf
  iapply (sound_body m K c fun _ => post' m ρ c)
  isplitl [HR Hp Ht Hl Hc Ho Hx Hs HO Hw]
  · unfold bodyStart
    isplitl [HR Hl]
    · unfold records
      isplitl [HR]; · unfold recs; iexact HR
      iexact Hl
    isplitl [Hp]; · iexact Hp
    isplitl [Ht]; · iexact Ht
    isplitl [Hc]; · iexact Hc
    isplitl [Hs]; · iexact Hs
    isplitl [Ho]; · iexact Ho
    isplitl [Hx]; · iexact Hx
    isplitl [HO]
    · unfold due; iexists W
      iapply (Entails.of_eq (show (owes (c : Thread nD τ) (O₀ c) W : sProp 𝕄) = owes (c : Thread nD τ) (owedL (dl0 c)) W from by unfold O₀; rw [dues_dl]))
      iexact HO
    unfold stagedW; iexact Hw
  · unfold bodyEnd due stagedW post' Φ₁ Dat.owesAt Pipeline.owesWithin
    rw [show (dats m ρ 0 c).owed (t0_0 : Fin cfg0.N).succ = 0 from rfl, show owedL (dl10 c) = 0 from rfl]
    iintro ⟨Hs, Ho, Hz, ⟨%W', HO⟩, Hw⟩
    isplitl [Hs Ho Hz Hr]
    · isplitl [Hs]; · iexact Hs
      isplitl [Hr]; · iexact Hr
      isplitl [Ho]; · iexact Ho
      iexact Hz
    isplitl [HO]
    · iexists W'; isplitr; · ipureintro; exact fun _ _ => Or.inl trivial
      iexact HO
    iexists _; isplitr; · (ipureintro; rfl)
    iexact Hw

/-! ## The cells' ghost state -/

/-- The seventeen cells are distinct, and none belongs to the window. -/
theorem ownSemFacts : Pipeline.OwnSemFacts cfg0.spec osem := by decide

/-- The window is held whole. -/
theorem share_eq (c : Dev nD) (w : Fin cfg0.W) : (dats m ρ 0 c).share w = fullShare := by unfold Dat.share; split <;> rfl

def ringCells : Finset (GSem nD τ sig) := Finset.univ.map ⟨kcell, kcell_inj⟩

/-- The duties, one column: cell, round, duty — in the order of `tokAll`. -/
def tokV : Fin 26 → SemLoc sig × ℕ × Bool :=
  ![(.reg 0, 0, true), (.reg 0, 0, false), (.reg 1, 0, true), (.reg 1, 0, false), (.dma 1, 0, false), (.dma 2, 0, false),
    (.dma 3, 0, false), (.dma 4, 0, false), (.dma 5, 0, false), (.dma 6, 0, false), (.dma 7, 0, false), (.dma 8, 0, false),
    (.dma 9, 0, false), (.dma 10, 0, false), (.dma 11, 0, false), (.dma 12, 0, false), (.dma 13, 0, false), (.dma 14, 0, false),
    (.dma 15, 0, false), (.dma 15, 1, false), (.dma 15, 2, false), (.dma 15, 3, false),
    (.dma 16, 0, false), (.dma 16, 1, false), (.dma 16, 2, false), (.dma 16, 3, false)]
/-- No duty is listed twice. -/
theorem tokV_inj : Function.Injective tokV := by decide +kernel

/-- Who is paid: the device itself, its right neighbour, its left one. -/
def sh (j : Fin 26) : Dev nD ≃ Dev nD :=
  if j.val = 0 ∨ j.val = 2 ∨ j.val = 15 ∨ j.val = 16 ∨ j.val = 17 then ring.symm
  else if j.val = 1 ∨ j.val = 3 ∨ j.val = 9 ∨ j.val = 10 ∨ j.val = 11 then ring else Equiv.refl _

abbrev tokOf (p : Dev nD × Fin 26) : GSem nD τ sig × ℕ × Bool := (((p.1 : Thread nD τ), (tokV p.2).1), (tokV p.2).2)
/-- Nor over the devices. -/
theorem tokOf_inj : Function.Injective tokOf := fun p q h => by
  have h1 : p.1 = q.1 := congrArg (fun x : GSem nD τ sig × ℕ × Bool => x.1.1.1) h
  have h2 : tokV p.2 = tokV q.2 := congrArg (fun x : GSem nD τ sig × ℕ × Bool => (x.1.2, x.2)) h
  exact Prod.ext h1 (tokV_inj h2)
def ringToks : Finset (GSem nD τ sig × ℕ × Bool) := Finset.univ.map ⟨tokOf, tokOf_inj⟩

/-- Every duty belongs to the device that pays it. -/
def payer : Dev nD × Fin 26 ≃ Dev nD × Fin 26 where
  toFun p := (sh p.2 p.1, p.2)
  invFun p := ((sh p.2).symm p.1, p.2)
  left_inv p := by simp
  right_inv p := by simp

def u₀ : UU := (initOf (Pipeline.cells cfgs cellOf_inj) (Pipeline.launchToks cfgs cellOf_inj), initOf ringCells ringToks)

/-- A separating product over the eighteen cells. -/
theorem big18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
/-- Over the twenty-six duties. -/
theorem big26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17
      ∗ Φ 18 ∗ Φ 19 ∗ Φ 20 ∗ Φ 21 ∗ Φ 22 ∗ Φ 23 ∗ Φ 24 ∗ Φ 25) :=
  bigSep_univ_eq_bigSepL [0, 1, 2, 3, 4, 5, 6, 7, 8, 9, 10, 11, 12, 13, 14, 15, 16, 17, 18, 19, 20, 21, 22, 23, 24, 25] (by decide) (by decide) Φ

/-- What the launch element deals device `c`. -/
def G (c : Dev nD) : sProp 𝕄 :=
  iprop((bigSep Finset.univ fun k : Fin 18 => roundState ER (Rd m) (kcell (c, k)) 0)
    ∗ (bigSep Finset.univ fun k : Fin 18 => reached ER (kcell (c, k)) 0) ∗ posAll c ∗ tokAll c)

/-- The duties' tokens, dealt to the devices that pay. -/
theorem toks_eq : (bigSep ringToks (fun x => (dutyTok ER x.1 x.2.1 x.2.2 : sProp 𝕄))) = bigSep Finset.univ fun c : Dev nD => tokAll c := by
  unfold ringToks
  rw [bigSep_map, bigSep_univ_equiv payer, bigSep_univ_prod]
  exact bigSep_congr fun c _ => by unfold tokAll; rw [big26]; rfl

/-- The launch element deals every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 18 => Φ (kcell (c, k)) := by
    unfold ringCells; rw [bigSep_map, bigSep_univ_prod]; rfl
  have hP : (bigSep Finset.univ fun c : Dev nD => bigSep Finset.univ fun k : Fin 18 => (atPos ER (kcell (c, k)) 0 ∅ 0 : sProp 𝕄)) = bigSep Finset.univ fun c : Dev nD => posAll c :=
    bigSep_congr fun c _ => by unfold posAll; rw [big18]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq ((hX fun g => atPos ER g 0 ∅ 0).trans hP)) $$ Hat
  ihave Hr := (Entails.of_eq (hX fun g => reached ER g 0)) $$ Hr
  ihave Htok := (Entails.of_eq toks_eq) $$ Htok
  unfold G; simp only [bigSep_sep']
  isplitl [Hst]; · iexact Hst
  isplitl [Hr]; · iexact Hr
  isplitl [Hat]; · iexact Hat
  iexact Htok

/-! ## The counters -/

/-- The cells but the launch's barrier, each at zero. -/
def ownZ (c : Dev nD) : sProp 𝕄 :=
  iprop(sv c (.reg 1) ∗ sv c (.dma 1) ∗ sv c (.dma 2) ∗ sv c (.dma 3) ∗ sv c (.dma 4) ∗ sv c (.dma 5)
    ∗ sv c (.dma 6) ∗ sv c (.dma 7) ∗ sv c (.dma 8) ∗ sv c (.dma 9) ∗ sv c (.dma 10) ∗ sv c (.dma 11)
    ∗ sv c (.dma 12) ∗ sv c (.dma 13) ∗ sv c (.dma 14) ∗ sv c (.dma 15) ∗ sv c (.dma 16))

/-- The cells of the kernel, one by one. -/
theorem ownSems0_eq (c : Dev nD) : (Pipeline.ownSems0 (Ix := Unit) (Name := ℕ) (U := UU) (Lvl := ℕ) (Val := Elt F) (τ := τ) osem c : sProp 𝕄) = ownZ c := by
  rw [Pipeline.ownSems0_eq_of_list c osem [0, 1, 2, 3, 4, 5, 6, 7, 8, 9, 10, 11, 12, 13, 14, 15, 16] (by decide) (by decide)]; rfl
/-- The launch's barrier is the one cell beside them. -/
theorem unscopedSems0_eq (c : Dev nD) : (unscopedSems0 c : sProp 𝕄) = sv c (.reg 0) := by
  unfold unscopedSems0; rw [bigSep_eq_bigSepL_of_eq [SemLoc.reg bar] (by decide) (by decide)]; rfl
/-- All eighteen counters at zero are those two. -/
theorem closed_eq (c : Dev nD) : (closedAll c : sProp 𝕄) = iprop(unscopedSems0 c ∗ Pipeline.ownSems0 (Ix := Unit) (Name := ℕ) (U := UU) (Lvl := ℕ) (Val := Elt F) (τ := τ) osem c) := by
  rw [ownSems0_eq, unscopedSems0_eq]; rfl
/-- The same, as a product over the cells. -/
theorem closed_big (c : Dev nD) : (closedAll c : sProp 𝕄) = bigSep Finset.univ fun k : Fin 18 => semVal (kcell (c, k)) 0 := by
  rw [big18]; rfl

/-! ## The invariants -/

/-- A device's counters at zero become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 18 => reached ER (kcell (c, k)) 0) ∗ (posAll c ∗ tokAll c)) := by
  unfold G
  iintro ⟨Hos, Hus, Hst, Hr, Hp, Ht⟩
  ihave Hv := (Entails.of_eq ((closed_eq (F := F) c).symm.trans (closed_big c))) $$ [Hos Hus]
  · isplitl [Hus] <;> iassumption
  imod (show iprop((bigSep Finset.univ fun k : Fin 18 => semVal (kcell (c, k)) 0) ∗ bigSep Finset.univ fun k : Fin 18 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hp] <;> iassumption

/-- A device's share, with all the records. -/
theorem give_recs (K : Dev nD × Fin 18 → ℕ) (c : Dev nD) : iprop(recs m K ∗ posAll c ∗ tokAll c) ⊢ (G' m c : sProp 𝕄) := by
  unfold G'; iintro ⟨HR, H1, H2⟩
  iexists K
  isplitl [HR]; · iexact HR
  isplitl [H1] <;> iassumption

/-- Every device gets the records. -/
theorem with_recs (K : Dev nD × Fin 18 → ℕ) :
    iprop(recs m K ∗ bigSep Finset.univ fun c : Dev nD => iprop(posAll c ∗ tokAll c)) ⊢ (bigSep Finset.univ (G' m) : sProp 𝕄) :=
  (sep_mono_left (BI.bigSep_of_persistent Finset.univ (recs m K))).trans (by
    rw [← bigSep_sep']
    exact bigSep_mono fun c _ => give_recs m K c)

/-- The devices' invariants, each known to its device, become records known to all. -/
theorem regroup :
    (bigSep Finset.univ fun c : Dev nD => iprop((bigSep Finset.univ fun k => iprop(∃ κ : ℕ, cellInv ER (Rd m) κ (kcell (c, k))))
          ∗ (bigSep Finset.univ fun k : Fin 18 => reached ER (kcell (c, k)) 0) ∗ (posAll c ∗ tokAll c)) : sProp 𝕄)
      ⊢ bigSep Finset.univ (G' m) := by
  rw [bigSep_sep', bigSep_sep', ← bigSep_univ_prod (fun p : Dev nD × Fin 18 => iprop(∃ κ : ℕ, cellInv ER (Rd m) κ (kcell p))),
    ← bigSep_univ_prod (fun p : Dev nD × Fin 18 => (reached ER (kcell p) 0 : sProp 𝕄))]
  iintro ⟨HI, Hr, Hrest⟩
  ihave HK := (BI.bigSep_exists_pi Finset.univ (fun (p : Dev nD × Fin 18) (κ : ℕ) => (cellInv ER (Rd m) κ (kcell p) : sProp 𝕄))) $$ HI
  icases HK with ⟨%K, HI⟩
  iapply (with_recs m K)
  isplitl [HI Hr]
  · unfold recs; rw [bigSep_sep']
    isplitl [HI] <;> iassumption
  iexact Hrest

/-- The start of all devices together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- If every device owes `n` to one other, by a permutation, every device is owed `n`. -/
theorem sum_perm (e : Dev nD ≃ Dev nD) (s sm : SemLoc sig) (c : Dev nD) (n : ℕ) :
    ∑ d : Dev nD, (tallyAt (((e d : Dev nD) : Thread nD τ), s) () n : CellTallies nD τ sig Unit) ((c : Thread nD τ), sm) () = if s = sm then n else 0 := by
  by_cases h : s = sm
  · subst h
    rw [if_pos rfl, Finset.sum_congr rfl (g := fun d => if e.symm c = d then n else 0), Finset.sum_ite_eq, if_pos (Finset.mem_univ _)]
    intro d _
    rw [tallyAt_apply]
    by_cases hd : e.symm c = d
    · subst hd; rw [Equiv.apply_symm_apply, if_pos ⟨rfl, rfl⟩, if_pos rfl]
    · rw [if_neg hd, if_neg]
      rintro ⟨h1, -⟩
      have h2 : c = e d := congrArg (fun g : GSem nD τ sig => g.1.1) h1
      exact hd (by rw [h2, Equiv.symm_apply_apply])
  · rw [if_neg h]
    refine Finset.sum_eq_zero fun d _ => ?_
    rw [tallyAt_apply, if_neg]
    rintro ⟨h1, -⟩
    exact h (congrArg (fun g : GSem nD τ sig => g.2) h1).symm

/-- So for the right neighbours. -/
theorem sum_nxt (s sm : SemLoc sig) (c : Dev nD) (n : ℕ) :
    ∑ d : Dev nD, (tallyAt (((nxt d : Dev nD) : Thread nD τ), s) () n : CellTallies nD τ sig Unit) ((c : Thread nD τ), sm) () = if s = sm then n else 0 :=
  sum_perm ring s sm c n
/-- And for the left ones. -/
theorem sum_prv (s sm : SemLoc sig) (c : Dev nD) (n : ℕ) :
    ∑ d : Dev nD, (tallyAt (((prv d : Dev nD) : Thread nD τ), s) () n : CellTallies nD τ sig Unit) ((c : Thread nD τ), sm) () = if s = sm then n else 0 :=
  sum_perm ring.symm s sm c n

/-- What a list of debts owes, its first apart. -/
theorem owedL_cons (p : GSem nD τ sig × ℕ) (l : List (GSem nD τ sig × ℕ)) (g : GSem nD τ sig) :
    owedL (p :: l) g () = owedL l g () + (tallyAt p.1 () p.2 : CellTallies nD τ sig Unit) g () := rfl

/-- What the devices together owe a cell of `c`. -/
theorem total (c : Dev nD) (sm : SemLoc sig) : ∑ d : Dev nD, O₀ d ((c : Thread nD τ), sm) () =
    (if (.reg bar2 : SemLoc sig) = sm then 1 else 0) + (if (.reg bar2 : SemLoc sig) = sm then 1 else 0)
    + (if (.dma 14 : SemLoc sig) = sm then N else 0) + (if (.dma 8 : SemLoc sig) = sm then N else 0)
    + (if (.dma 13 : SemLoc sig) = sm then N else 0) + (if (.dma 7 : SemLoc sig) = sm then N else 0)
    + (if (.dma 12 : SemLoc sig) = sm then N else 0) + (if (.dma 6 : SemLoc sig) = sm then N else 0)
    + (if (.reg bar : SemLoc sig) = sm then 1 else 0) + (if (.reg bar : SemLoc sig) = sm then 1 else 0) := by
  unfold O₀
  rw [Finset.sum_congr rfl fun d _ => congrArg (fun l => owedL l ((c : Thread nD τ), sm) ()) (dues_dl d)]
  simp only [owedL_cons, Finset.sum_add_distrib, sum_nxt, sum_prv]
  rw [show ∑ x : Dev nD, owedL (dl10 x) ((c : Thread nD τ), sm) () = 0 from Finset.sum_eq_zero fun d _ => rfl, Nat.zero_add]

/-- The credit that the launch gives at a cell is what is owed to it. -/
theorem launch_cell (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The cells the launch gives credit for. -/
def crV : Fin 8 → SemLoc sig := ![.reg 0, .dma 6, .dma 12, .dma 7, .dma 13, .dma 8, .dma 14, .reg 1]
/-- No cell is listed twice. -/
theorem crV_inj : Function.Injective crV := by decide +kernel
/-- How much. -/
def crN (n : ℕ) : Fin 8 → ℕ := ![2, n, n, n, n, n, n, 2]

/-- What is owed to each of them. -/
theorem total_eq (c : Dev nD) (j : Fin 8) : ∑ d : Dev nD, O₀ d ((c : Thread nD τ), crV j) () = crN N j := by
  rw [total]
  generalize N = n
  revert j
  intro j
  fin_cases j <;> simp (decide := true) [crV, crN]

/-- A separating product over eight. -/
theorem big8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The launch gives a device credit for all that it will wait for from others. -/
theorem creds (c : Dev nD) : (Pipeline.launchCred O₀ c : sProp 𝕄) ⊢ crAll c := by
  unfold Pipeline.launchCred
  refine BIBase.Entails.trans (bigSep_subset (t := Finset.univ.map ⟨crV, crV_inj⟩) (Finset.subset_univ _)) ?_
  rw [bigSep_map]
  refine Entails.of_eq ((bigSep_congr fun j _ => congrArg cred (launch_cell c (crV j) _ (total_eq c j))).trans ?_)
  rw [big8]; rfl

/-! ## The run -/

set_option maxRecDepth 4000 in
/-- The window's own waits are below everything owed. -/
theorem waits (c : Dev nD) : (levAts L lv : sProp 𝕄) ⊢ Pipeline.cellsWaits cfgs (dats m ρ) () 0 c :=
  Pipeline.cellsWaits_intro cfgs (dats m ρ) () 0 c fun w s t => by
    have hs : ∀ (w : Fin 1) (s : Fin (spec0 w).nbuf), lvS (.dma ((spec0 w).sem s)) = 0 := by decide
    rcases t with ⟨_ | _, ht⟩
    · refine mayWait_of c _ (dl0 c) fun p hp => ?_
      have : ∀ (c : Dev nD), ∀ p ∈ dl0 c, p.1.1.2 = .tc ∧ 0 < lvS p.1.2 := fun c => List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, List.forall_mem_cons.mpr ⟨⟨rfl, by dsimp only; decide⟩, fun _ h => absurd h List.not_mem_nil⟩⟩⟩⟩⟩⟩⟩⟩⟩⟩
      have h := this c p hp
      exact ⟨h.1, by rw [show lvS _ = 0 from hs w s]; exact h.2⟩
    · show _ ⊢ MayWait (c : Thread nD τ) _ () 0
      rw [MayWait_zero]; iintro -; iempintro

/-- The half of the rows kept aside, to be read at the end. -/
def kept (c : Dev nD) : sProp 𝕄 := ((c : Thread nD τ).loc main_arg0) ↦{fullShare.right} m ((c : Thread nD τ).loc main_arg0)

/-- What a device starts with. -/
theorem startX_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ kept m c) := by
  rw [Pipeline.unscopedRestP_none, unscopedRest0_eq]
  iintro ⟨⟨Hx, Ho⟩, Hl, Hc, -, HG⟩
  ihave Hc := (creds (F := F) c) $$ Hc
  ihave Ho := (out_split c _) $$ Ho
  ihave Hx := (rows_split m c) $$ Hx
  icases Hx with ⟨Hx, Hk⟩
  imodintro
  unfold startX kept
  isplitr [Hk]
  · isplitl [HG]; · iexact HG
    isplitl [Hl]; · iexact Hl
    isplitl [Hc]; · iexact Hc
    isplitl [Ho]; · iexact Ho
    iexact Hx
  iexact Hk

/-- With its buffers, what the body needs. -/
theorem phi0_intro (c : Dev nD) :
    iprop(startX m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  ihave Hr := (scratch_split (F := F) c) $$ Hr
  isplitl [Hs]; · iexact Hs
  iexact Hr

/-- What is left to read at the end. -/
def endY (c : Dev nD) : sProp 𝕄 := iprop(outsDone m c ∗ unscopedSems0 c)

/-- What the body leaves gives back the buffers and the counters. -/
theorem phi1_exit (c : Dev nD) :
    (dats m ρ 0 c).Φ (Fin.last cfg0.N) ⊢ iprop(endY m c ∗ Pipeline.ownSems0 osem c ∗ Pipeline.scopedRest cfg0.spec c) := by
  rw [show (dats m ρ 0 c).Φ (Fin.last cfg0.N) = Φ₁ m c from rfl]
  unfold Φ₁ endY
  rw [closed_eq]
  iintro ⟨Hs, Hr, Ho, Hu, Hz⟩
  isplitl [Ho Hu]
  · isplitl [Ho] <;> iassumption
  isplitl [Hz]; · iexact Hz
  iapply (scratch_join (F := F) c)
  isplitl [Hs] <;> iassumption

/-- What the memory holds of device `c` at the end, the columns aside. -/
def QY (c : Dev nD) (s : MemSt nD τ sig (Elt F)) : Prop :=
  ((∀ r : Fin 4, (outT c r).view.read (Elt F) (s.mem ((c : Thread nD τ).loc main_v1)) = oT m c r.val)
    ∧ (∀ r : Fin 4, (outB c r).view.read (Elt F) (s.mem ((c : Thread nD τ).loc main_v1)) = oB m c r.val)
    ∧ s.mem ((c : Thread nD τ).loc main_arg0) = m ((c : Thread nD τ).loc main_arg0))
  ∧ ∀ sm : SemLoc sig, sm.isScoped .tc = false → s.sem ((c.tc : Thread nD τ), sm) = 0

/-- What the memory holds at the end is read off. -/
theorem read_end (c : Dev nD) (s' : Phys nD τ sig (Elt F)) :
    iprop(endY m c ∗ kept m c ∗ SI s') ⊢ (|={Set.univ}=> iprop(⌜QY m c s'.mem⌝ ∗ SI s') : sProp 𝕄) := by
  unfold endY kept outsDone
  iintro ⟨⟨⟨⟨t0, t1, t2, t3⟩, u0, u1, u2, u3⟩, Hu⟩, Hk, HSI⟩
  imod (Pipeline.unscopedSems0_read (X := unscopedSems0 c) (c := c) fupd_intro s') $$ [Hu HSI] with ⟨%hs, HSI⟩
  · isplitl [Hu] <;> iassumption
  icombine HSI t0 gives %a0
  icombine HSI t1 gives %a1
  icombine HSI t2 gives %a2
  icombine HSI t3 gives %a3
  icombine HSI u0 gives %b0
  icombine HSI u1 gives %b1
  icombine HSI u2 gives %b2
  icombine HSI u3 gives %b3
  icombine HSI Hk gives %hk
  imodintro
  isplitr
  · ipureintro
    refine ⟨⟨fun r => ?_, fun r => ?_, Buf.eq_of_forall_mem_univ hk⟩, hs⟩
    · fin_cases r
      · exact a0
      · exact a1
      · exact a2
      · exact a3
    · fin_cases r
      · exact b0
      · exact b1
      · exact b2
      · exact b3
  iexact HSI

/-- The final memory: every device's result at its blocks, the arguments as they were. -/
def QC : PUnit × MemSt nD τ sig (Elt F) → Prop := fun r => ∀ c : Dev nD,
  (∀ i : Fin 4, (outT c i).view.read (Elt F) (r.2.mem ((c : Thread nD τ).loc main_v1)) = oT m c i.val)
    ∧ (∀ i : Fin 4, (outB c i).view.read (Elt F) (r.2.mem ((c : Thread nD τ).loc main_v1)) = oB m c i.val)
    ∧ r.2.mem ((c : Thread nD τ).loc main_arg0) = m ((c : Thread nD τ).loc main_arg0)
    ∧ r.2.mem ((c : Thread nD τ).loc main_arg1) = m ((c : Thread nD τ).loc main_arg1)

set_option maxRecDepth 8000 in
/-- From any memory with zero counters every weakly fair execution of the program ends, every counter at zero, the
    arguments unchanged and each device's result at the eight blocks. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := startX m) (Y := endY m) (Z := kept m)
    (hX := startX_intro m ρ) (hin := phi0_intro m ρ) (hout := phi1_exit m ρ)
    (QY := QY m)
    (hY := read_end m)
    (hQ := fun _ h hs => ⟨fun c => ⟨(h c).2.2.1.1, (h c).2.2.1.2.1, (h c).2.2.1.2.2,
        ((h c).1 (0 : Fin 1)).trans ((dats (F := F) m ρ 0 c).arrAt_in (0 : Fin 1) rfl _)⟩, sem_eq_zero hs fun c => (h c).2.2.2⟩)

end Cert.KernelIdeal.Run

end
-- ==== Proof.Value.lean ====
/-
# The kernel's blocks are the reference's

At the ideal values a block of the result is, entry by entry, the larger of zero and a row of `x` times a column of
`w_mat`: the same sum on both sides, over the same 4096 products. What is left is where a row lies: row `i` of a
device's result belongs to the block of 512 rows numbered `i / 512`, whose rows of `x` were at launch on device
`i / 1024`, in its first or second half.
-/
module

public import proofs.«01_k».proof.Proof.KernelIdealRun.Launch
public import proofs.«01_k».proof.Proof.Gen.ReferenceIdeal.Run
public import Idealize.ShloMosaic.Lib.Layout
public import Idealize.ShloMosaic.Lib.Pipeline.Value
public import Idealize.ShloMosaic.Lib.MatmulPlain
public import Idealize.ShloMosaic.Lib.StackMember

@[expose] public section

noncomputable section

namespace Cert.Proof.RingValue

open Idealize.ShloMosaic Idealize.ShloMosaic.TcCoe Idealize.ShloMosaic.ValueIdx
open Cert.KernelIdeal (S512x4096 S4096x2048 S512x2048 S1x512x4096 S1x512x2048 S1024x4096 nD τ sig)
open Cert.KernelIdeal.Run

/-- The kernel's product is the plain one. -/
theorem dotK_plain : (Cert.KernelIdeal.dot_S512x4096_S4096x2048_S512x2048_1_0_0_1_n_n : DotDims _ _ _) = DotDims.plain 512 4096 2048 := rfl
/-- So is the reference's. -/
theorem dotR_plain : (Cert.ReferenceIdeal.dot_S4096x4096_S4096x8192_S4096x8192_1_0_0_1_n_n : DotDims _ _ _) = DotDims.plain 4096 4096 8192 := rfl

/-- One entry of what the kernel computes of 512 rows and its columns. -/
theorem blkOf_apply (X : FVec Ideal S512x4096 .bf16) (w : FVec Ideal S4096x2048 .bf16) (r : Fin 512) (q : Fin 2048) :
    blkOf (F := Ideal) X w (ix2 r q) = max (∑ k : Fin 4096, X (ix2 r k) * w (ix2 k q)) (Ideal.ofBits .f32 0x00000000#32) := by
  unfold blkOf Cert.KernelIdeal.Gen.k0_pay5 addUnit
  dsimp only
  rw [shapeCast_shapeCast, shapeCast_shapeCast, shapeCast_self, maximumf_apply]
  refine congrArg₂ max ?_ rfl
  show FloatOps.matmul Cert.KernelIdeal.dot_S512x4096_S4096x2048_S512x2048_1_0_0_1_n_n none X w _ (ix2 r q) = _
  rw [dotK_plain]
  refine (Ideal.matmul_plain_apply none X w _ r q).trans ?_
  show Ideal.ofBits .f32 0x00000000#32 + _ = _
  rw [Ideal.ofBits_zero_f32, zero_add]

variable (x : FVec Ideal ⟨2, ![4096, 4096]⟩ .bf16) (w : FVec Ideal ⟨2, ![4096, 8192]⟩ .bf16)

/-- The reference's result. -/
def refOut : FVec Ideal ⟨2, ![4096, 8192]⟩ .f32 :=
  maximumf (Host.dotGeneral Cert.ReferenceIdeal.dot_S4096x4096_S4096x8192_S4096x8192_1_0_0_1_n_n none x w)
    (broadcastInDim Cert.ReferenceIdeal.S4096x8192 ![] Cert.ReferenceIdeal.Gen.bcast_S_S4096x8192 (constant Cert.ReferenceIdeal.S_ .f32 0x00000000#32))

/-- One entry of it. -/
theorem refOut_apply (r : Fin 4096) (q : Fin 8192) :
    refOut x w (ix2 r q) = max (∑ k : Fin 4096, x (ix2 r k) * w (ix2 k q)) (Ideal.ofBits .f32 0x00000000#32) := by
  unfold refOut
  rw [maximumf_apply, dotR_plain]
  exact congrArg₂ max (StackMember.dotGeneral_plain_apply none x w r q) rfl

/-! ## Where the blocks lie -/

/-- The devices' arrays cut the whole ones evenly: the rows of `x`, -/
theorem tilesX : Layout.Tiles ⟨2, ![1024, 4096]⟩ ⟨2, ![4096, 4096]⟩ 0 4 := by decide
/-- the columns of `w_mat` and of the result. -/
theorem tilesW : Layout.Tiles ⟨2, ![4096, 2048]⟩ ⟨2, ![4096, 8192]⟩ 1 4 := by decide

/-- Every block of 512 rows is some round's, and holds the rows of the device and the half it is named after. -/
theorem block_at : ∀ (c : Dev nD) (b : Fin 8), ∃ p : Bool × Fin 4, rowP c p = 512 * b.val
    ∧ (match p.1 with | true => 1024 * (prv^[p.2.val] c).val | false => 1024 * (nxt^[p.2.val] c).val + 512) = 512 * b.val := by
  decide +kernel
/-- A block of rows starts at the first column. -/
theorem col_zero : ∀ (c : Dev nD) (r : Fin 4), Cert.KernelIdeal.k0_off1 c (BitVec.ofNat 32 r.val) 1 = 0 ∧ Cert.KernelIdeal.k0_off2 c (BitVec.ofNat 32 r.val) 1 = 0 := by
  decide +kernel

variable (m : (ℓ : Loc nD τ sig) → Buf (Elt Ideal) ℓ)
  (hx : ∀ c : Dev nD, m ((c.tc : Thread nD τ).loc Cert.KernelIdeal.main_arg0) = Layout.block ⟨2, ![1024, 4096]⟩ ⟨2, ![4096, 4096]⟩ 0 4 c x tilesX)
  (hw : ∀ c : Dev nD, m ((c.tc : Thread nD τ).loc Cert.KernelIdeal.main_arg1) = Layout.block ⟨2, ![4096, 2048]⟩ ⟨2, ![4096, 8192]⟩ 1 4 c w tilesW)

include hw in
/-- The staged columns. -/
theorem wS_apply (c : Dev nD) (k : Fin 4096) (q : Fin 2048) (Q : Fin 8192) (hQ : Q.val = c.val * 2048 + q.val) :
    wS m c (ix2 k q) = w (ix2 k Q) := by
  have h1 : wS m c = m ((c.tc : Thread nD τ).loc Cert.KernelIdeal.main_arg1) := by
    funext i
    unfold wS
    refine congrArg (m ((c.tc : Thread nD τ).loc Cert.KernelIdeal.main_arg1)) (funext fun a => Fin.ext ?_)
    show 0 * _ + 1 * (i a).val = (i a).val
    rw [Nat.zero_mul, Nat.zero_add, Nat.one_mul]
  rw [h1, hw c, Layout.block_apply]
  refine congrArg w (funext fun a => Fin.ext ?_)
  rw [Layout.Tiles.idx_val]
  fin_cases a
  · rfl
  · exact hQ.symm

include hx in
/-- The first half of a device's rows. -/
theorem xT_apply (d : Dev nD) (r : Fin 512) (k : Fin 4096) (R : Fin 4096) (hR : R.val = 1024 * d.val + r.val) :
    xT m d (ix2 r k) = x (ix2 R k) := by
  unfold xT
  show m ((d.tc : Thread nD τ).loc Cert.KernelIdeal.main_arg0) (xTop.view.emb (ix2 r k)) = _
  rw [hx d, Layout.block_apply]
  refine congrArg x (funext fun a => Fin.ext ?_)
  rw [Layout.Tiles.idx_val]
  fin_cases a
  · show d.val * 1024 + (0 + 1 * r.val) = R.val
    omega
  · show 0 + 1 * k.val = k.val
    omega

include hx in
/-- The second half. -/
theorem xB_apply (d : Dev nD) (r : Fin 512) (k : Fin 4096) (R : Fin 4096) (hR : R.val = 1024 * d.val + 512 + r.val) :
    xB m d (ix2 r k) = x (ix2 R k) := by
  unfold xB
  show m ((d.tc : Thread nD τ).loc Cert.KernelIdeal.main_arg0) (xBot.view.emb (ix2 r k)) = _
  rw [hx d, Layout.block_apply]
  refine congrArg x (funext fun a => Fin.ext ?_)
  rw [Layout.Tiles.idx_val]
  fin_cases a
  · show d.val * 1024 + (512 + 1 * r.val) = R.val
    omega
  · show 0 + 1 * k.val = k.val
    omega

include hx hw in
/-- A buffer whose eight blocks are the kernel's is a device's block of the reference's result. -/
theorem out_eq (c : Dev nD) (f : Buf (Elt Ideal) ((c.tc : Thread nD τ).loc Cert.KernelIdeal.main_v1))
    (hT : ∀ r : Fin 4, (outT c r).view.read (Elt Ideal) f = oT m c r.val)
    (hB : ∀ r : Fin 4, (outB c r).view.read (Elt Ideal) f = oB m c r.val) :
    f = Layout.block ⟨2, ![4096, 2048]⟩ ⟨2, ![4096, 8192]⟩ 1 4 c (refOut x w) tilesW := by
  funext i
  obtain ⟨R, q, rfl⟩ : ∃ (R : Fin 4096) (q : Fin 2048), i = ix2 R q := ⟨i 0, i 1, eq_ix2 i⟩
  have hc : c.val < 4 := c.isLt
  let Q : Fin 8192 := ⟨c.val * 2048 + q.val, by have := q.isLt; omega⟩
  have hix : tilesW.idx c (ix2 R q) = ix2 R Q := by
    refine funext fun a => Fin.ext ?_
    rw [Layout.Tiles.idx_val]
    fin_cases a <;> rfl
  rw [Layout.block_apply, hix, refOut_apply]
  have hb : R.val / 512 < 8 := by have := R.isLt; omega
  obtain ⟨⟨b, r⟩, h1, h2⟩ := block_at c ⟨R.val / 512, hb⟩
  let y : Fin 512 := ⟨R.val % 512, Nat.mod_lt _ (by decide)⟩
  have hy : R.val = 512 * (R.val / 512) + R.val % 512 := (Nat.div_add_mod _ _).symm
  cases b with
  | true =>
    have he : (outT c r).view.emb (ix2 y q) = ix2 R q := by
      refine funext fun a => Fin.ext ?_
      fin_cases a
      · show Cert.KernelIdeal.k0_off1 c (BitVec.ofNat 32 r.val) 0 + 1 * y.val = R.val
        have h1' : Cert.KernelIdeal.k0_off1 c (BitVec.ofNat 32 r.val) 0 = 512 * (R.val / 512) := h1
        rw [h1']; show _ + 1 * (R.val % 512) = _; omega
      · show Cert.KernelIdeal.k0_off1 c (BitVec.ofNat 32 r.val) 1 + 1 * q.val = q.val
        rw [(col_zero c r).1]; omega
    have hr := congrFun (hT r) (ix2 y q)
    have hr' : f (ix2 R q) = oT m c r.val (ix2 y q) := by rw [← he]; exact hr
    rw [hr']; unfold oT
    refine (blkOf_apply _ _ y q).trans (congrArg (max · _) (Finset.sum_congr rfl fun k _ => ?_))
    rw [xT_apply x m hx _ y k R (by have h2' : 1024 * (prv^[r.val] c).val = 512 * (R.val / 512) := h2
                                    rw [h2']; exact hy),
      wS_apply w m hw c k q Q rfl]
  | false =>
    have he : (outB c r).view.emb (ix2 y q) = ix2 R q := by
      refine funext fun a => Fin.ext ?_
      fin_cases a
      · show Cert.KernelIdeal.k0_off2 c (BitVec.ofNat 32 r.val) 0 + 1 * y.val = R.val
        have h1' : Cert.KernelIdeal.k0_off2 c (BitVec.ofNat 32 r.val) 0 = 512 * (R.val / 512) := h1
        rw [h1']; show _ + 1 * (R.val % 512) = _; omega
      · show Cert.KernelIdeal.k0_off2 c (BitVec.ofNat 32 r.val) 1 + 1 * q.val = q.val
        rw [(col_zero c r).2]; omega
    have hr := congrFun (hB r) (ix2 y q)
    have hr' : f (ix2 R q) = oB m c r.val (ix2 y q) := by rw [← he]; exact hr
    rw [hr']; unfold oB
    refine (blkOf_apply _ _ y q).trans (congrArg (max · _) (Finset.sum_congr rfl fun k _ => ?_))
    rw [xB_apply x m hx _ y k R (by have h2' : 1024 * (nxt^[r.val] c).val + 512 = 512 * (R.val / 512) := h2
                                    rw [h2']; exact hy),
      wS_apply w m hw c k q Q rfl]

end Cert.Proof.RingValue

end
-- ==== Proof.lean ====
/-
# The certificate

The kernel is a ring all-gather joined to a matrix product. `KernelRun` and `KernelIdealRun` run it, once for the
printed program and once for its idealization; `Value` says that what the run leaves is the reference's result. Here
the five claims are read off.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Launch
public import proofs.«01_k».proof.Proof.KernelIdealRun.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel ends with its arguments as they were and every counter at zero. -/
theorem kernel_frame : Cert.quiescent_Kernel := fun m ρ _ =>
  (θ_run Cert.Kernel.defs _ _).mono (fun _ h => ⟨fun c => (h.1 c).2.2, h.2⟩) (Cert.Kernel.Run.run_main (F := Bits) m ρ)

/-- So does its idealization. -/
theorem kernelIdeal_frame : Cert.quiescent_KernelIdeal := fun m ρ _ =>
  (θ_run Cert.KernelIdeal.defs _ _).mono (fun _ h => ⟨fun c => (h.1 c).2.2, h.2⟩) (Cert.KernelIdeal.Run.run_main (F := Ideal) m ρ)

/-- So does the reference, which has no counter at all. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends with its columns of the reference's result. -/
theorem value : Cert.algebraic_KernelIdeal_ReferenceIdeal := by
  intro m ρ m' ρ' _ hin
  refine ⟨RingValue.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨RingValue.out_eq _ _ m (fun d => (hin d).1) (fun d => (hin d).2) c _ (h.1 c).1 (h.1 c).2.1, (h.1 c).2.2⟩)
      (Cert.KernelIdeal.Run.run_main (F := Ideal) m ρ)
  · exact (θ_run Cert.ReferenceIdeal.defs _ _).mono (fun _ h => h 0) (Cert.ReferenceIdeal.Value.run (F := Ideal) m' ρ')

/-- The certificate: the five claims together. -/
theorem claim : Cert.Claim :=
  ⟨Cert.Kernel.Gen.facts, Cert.KernelIdeal.Gen.facts, Cert.ReferenceIdeal.Gen.facts,
    kernel_frame, kernelIdeal_frame, reference_frame, trivial, value⟩

end Cert.Proof

end
